-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S4096x256 : Shape := ⟨2, ![4096, 256]⟩
abbrev S32 : Shape := ⟨1, ![32]⟩
abbrev S28 : Shape := ⟨1, ![28]⟩
abbrev S_ : Shape := ⟨0, ![]⟩
abbrev S1 : Shape := ⟨1, ![1]⟩
abbrev S64x256 : Shape := ⟨2, ![64, 256]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .f32⟩
  | .hbm, ⟨1, _⟩ => ⟨S4096x256, .f32⟩
  | .local _ .vmem, ⟨0, _⟩ => ⟨S256x256, .f32⟩
  | .local _ .vmem, ⟨1, _⟩ => ⟨S4096x256, .f32⟩
  | _, _ => ⟨S256x256, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 122 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | _ => false

abbrev sig : RefSig :=
  (ofTc nBuf bufTy 1 122 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_78 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_77 : BitVec 32 := 1#32
  let v152 : BitVec 32 := Scalar.muli v150 c1_i32_77
  let v153 : BitVec 32 := Scalar.addi c0_i32_78 v152
  v153.toNat
def k0_dev2 (d0 : Dev nD) : Nat :=
  let c0_i32_81 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_80 : BitVec 32 := 1#32
  let v154 : BitVec 32 := Scalar.muli v97 c1_i32_80
  let v155 : BitVec 32 := Scalar.addi c0_i32_81 v154
  v155.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v158 : BitVec 32 := Scalar.muli v2 c256_i32
  let v159 : Index := Scalar.indexCast v158
  let c0_84 : Index := 0#32
  ![v159.toNat, 0]
def k0_off2 (d0 : Dev nD) (c0_i32_85 : BitVec 32) (c0_i32_115 : BitVec 32) : Fin 2 → Nat :=
  let c4_i32_113 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let v161 : BitVec 32 := Scalar.subi v44 c0_i32_85
  let c16_i32_86 : BitVec 32 := 16#32
  let c0_i32_87 : BitVec 32 := 0#32
  let v162 : BitVec 1 := Scalar.cmpi .eq c16_i32_86 c0_i32_87
  let c1_i32_88 : BitVec 32 := 1#32
  let v163 : BitVec 32 := Scalar.select v162 c1_i32_88 c16_i32_86
  let v164 : BitVec 32 := Scalar.remsi v161 v163
  let c0_i32_90 : BitVec 32 := 0#32
  let v166 : BitVec 1 := Scalar.cmpi .slt v164 c0_i32_90
  let c0_i32_91 : BitVec 32 := 0#32
  let v167 : BitVec 1 := Scalar.cmpi .slt v163 c0_i32_91
  let v168 : BitVec 1 := Scalar.xori v166 v167
  let c0_i32_89 : BitVec 32 := 0#32
  let v165 : BitVec 1 := Scalar.cmpi .ne v164 c0_i32_89
  let v169 : BitVec 1 := Scalar.andi v168 v165
  let v170 : BitVec 32 := Scalar.addi v164 v163
  let v171 : BitVec 32 := Scalar.select v169 v170 v164
  let c0_i32_93 : BitVec 32 := 0#32
  let v173 : BitVec 1 := Scalar.cmpi .sgt v171 c0_i32_93
  let v174 : BitVec 32 := Scalar.extui v173
  let c0_i32_94 : BitVec 32 := 0#32
  let v175 : BitVec 1 := Scalar.cmpi .slt v171 c0_i32_94
  let v176 : BitVec 32 := Scalar.extui v175
  let v177 : BitVec 32 := Scalar.subi v174 v176
  let c4_i32_92 : BitVec 32 := 4#32
  let c0_i32_95 : BitVec 32 := 0#32
  let v178 : BitVec 1 := Scalar.cmpi .sgt c4_i32_92 c0_i32_95
  let v179 : BitVec 32 := Scalar.extui v178
  let c0_i32_96 : BitVec 32 := 0#32
  let v180 : BitVec 1 := Scalar.cmpi .slt c4_i32_92 c0_i32_96
  let v181 : BitVec 32 := Scalar.extui v180
  let v182 : BitVec 32 := Scalar.subi v179 v181
  let v183 : BitVec 1 := Scalar.cmpi .ne v177 v182
  let v184 : BitVec 32 := Scalar.remsi v171 c4_i32_92
  let c0_i32_97 : BitVec 32 := 0#32
  let v185 : BitVec 1 := Scalar.cmpi .ne v184 c0_i32_97
  let v186 : BitVec 1 := Scalar.andi v183 v185
  let v172 : BitVec 32 := Scalar.divsi v171 c4_i32_92
  let c1_i32_98 : BitVec 32 := 1#32
  let v187 : BitVec 32 := Scalar.subi v172 c1_i32_98
  let v188 : BitVec 32 := Scalar.select v186 v187 v172
  let c2_i32_105 : BitVec 32 := 2#32
  let c0_i32_106 : BitVec 32 := 0#32
  let v199 : BitVec 1 := Scalar.cmpi .eq c2_i32_105 c0_i32_106
  let c1_i32_107 : BitVec 32 := 1#32
  let v200 : BitVec 32 := Scalar.select v199 c1_i32_107 c2_i32_105
  let v201 : BitVec 32 := Scalar.remsi v188 v200
  let c0_i32_109 : BitVec 32 := 0#32
  let v203 : BitVec 1 := Scalar.cmpi .slt v201 c0_i32_109
  let c0_i32_110 : BitVec 32 := 0#32
  let v204 : BitVec 1 := Scalar.cmpi .slt v200 c0_i32_110
  let v205 : BitVec 1 := Scalar.xori v203 v204
  let c0_i32_108 : BitVec 32 := 0#32
  let v202 : BitVec 1 := Scalar.cmpi .ne v201 c0_i32_108
  let v206 : BitVec 1 := Scalar.andi v205 v202
  let v207 : BitVec 32 := Scalar.addi v201 v200
  let v208 : BitVec 32 := Scalar.select v206 v207 v201
  let c0_i32_111 : BitVec 32 := 0#32
  let v209 : BitVec 1 := Scalar.cmpi .eq v208 c0_i32_111
  let c4_i32_99 : BitVec 32 := 4#32
  let c0_i32_100 : BitVec 32 := 0#32
  let v189 : BitVec 1 := Scalar.cmpi .eq c4_i32_99 c0_i32_100
  let c1_i32_101 : BitVec 32 := 1#32
  let v190 : BitVec 32 := Scalar.select v189 c1_i32_101 c4_i32_99
  let v191 : BitVec 32 := Scalar.remsi v171 v190
  let c0_i32_103 : BitVec 32 := 0#32
  let v193 : BitVec 1 := Scalar.cmpi .slt v191 c0_i32_103
  let c0_i32_104 : BitVec 32 := 0#32
  let v194 : BitVec 1 := Scalar.cmpi .slt v190 c0_i32_104
  let v195 : BitVec 1 := Scalar.xori v193 v194
  let c0_i32_102 : BitVec 32 := 0#32
  let v192 : BitVec 1 := Scalar.cmpi .ne v191 c0_i32_102
  let v196 : BitVec 1 := Scalar.andi v195 v192
  let v197 : BitVec 32 := Scalar.addi v191 v190
  let v198 : BitVec 32 := Scalar.select v196 v197 v191
  let c3_i32_112 : BitVec 32 := 3#32
  let v210 : BitVec 32 := Scalar.subi c3_i32_112 v198
  let v211 : BitVec 32 := Scalar.select v209 v198 v210
  let v212 : BitVec 32 := Scalar.muli c4_i32_113 v211
  let v213 : BitVec 32 := Scalar.addi v212 v188
  let c256_i32_114 : BitVec 32 := 256#32
  let v214 : BitVec 32 := Scalar.muli v213 c256_i32_114
  let v215 : BitVec 32 := Scalar.addi v214 c0_i32_115
  let c0_i32_120 : BitVec 32 := 0#32
  ![v215.toNat, 0]
def k0_dev3 (d0 : Dev nD) : Nat :=
  let c0_i32_119 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_118 : BitVec 32 := 1#32
  let v216 : BitVec 32 := Scalar.muli v97 c1_i32_118
  let v217 : BitVec 32 := Scalar.addi c0_i32_119 v216
  v217.toNat
def k0_dev4 (d0 : Dev nD) : Nat :=
  let c0_i32_156 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_155 : BitVec 32 := 1#32
  let v279 : BitVec 32 := Scalar.muli v97 c1_i32_155
  let v280 : BitVec 32 := Scalar.addi c0_i32_156 v279
  v280.toNat
def k0_dev5 (d0 : Dev nD) : Nat :=
  let c0_i32_193 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_192 : BitVec 32 := 1#32
  let v342 : BitVec 32 := Scalar.muli v97 c1_i32_192
  let v343 : BitVec 32 := Scalar.addi c0_i32_193 v342
  v343.toNat
def k0_dev6 (d0 : Dev nD) : Nat :=
  let c0_i32_230 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_229 : BitVec 32 := 1#32
  let v405 : BitVec 32 := Scalar.muli v97 c1_i32_229
  let v406 : BitVec 32 := Scalar.addi c0_i32_230 v405
  v406.toNat
def k0_off3 (d0 : Dev nD) (c0_i32_234 : BitVec 32) (c0_i32_264 : BitVec 32) : Fin 2 → Nat :=
  let c4_i32_262 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let v413 : BitVec 32 := Scalar.addi v44 c0_i32_234
  let c16_i32_235 : BitVec 32 := 16#32
  let c0_i32_236 : BitVec 32 := 0#32
  let v414 : BitVec 1 := Scalar.cmpi .eq c16_i32_235 c0_i32_236
  let c1_i32_237 : BitVec 32 := 1#32
  let v415 : BitVec 32 := Scalar.select v414 c1_i32_237 c16_i32_235
  let v416 : BitVec 32 := Scalar.remsi v413 v415
  let c0_i32_239 : BitVec 32 := 0#32
  let v418 : BitVec 1 := Scalar.cmpi .slt v416 c0_i32_239
  let c0_i32_240 : BitVec 32 := 0#32
  let v419 : BitVec 1 := Scalar.cmpi .slt v415 c0_i32_240
  let v420 : BitVec 1 := Scalar.xori v418 v419
  let c0_i32_238 : BitVec 32 := 0#32
  let v417 : BitVec 1 := Scalar.cmpi .ne v416 c0_i32_238
  let v421 : BitVec 1 := Scalar.andi v420 v417
  let v422 : BitVec 32 := Scalar.addi v416 v415
  let v423 : BitVec 32 := Scalar.select v421 v422 v416
  let c0_i32_242 : BitVec 32 := 0#32
  let v425 : BitVec 1 := Scalar.cmpi .sgt v423 c0_i32_242
  let v426 : BitVec 32 := Scalar.extui v425
  let c0_i32_243 : BitVec 32 := 0#32
  let v427 : BitVec 1 := Scalar.cmpi .slt v423 c0_i32_243
  let v428 : BitVec 32 := Scalar.extui v427
  let v429 : BitVec 32 := Scalar.subi v426 v428
  let c4_i32_241 : BitVec 32 := 4#32
  let c0_i32_244 : BitVec 32 := 0#32
  let v430 : BitVec 1 := Scalar.cmpi .sgt c4_i32_241 c0_i32_244
  let v431 : BitVec 32 := Scalar.extui v430
  let c0_i32_245 : BitVec 32 := 0#32
  let v432 : BitVec 1 := Scalar.cmpi .slt c4_i32_241 c0_i32_245
  let v433 : BitVec 32 := Scalar.extui v432
  let v434 : BitVec 32 := Scalar.subi v431 v433
  let v435 : BitVec 1 := Scalar.cmpi .ne v429 v434
  let v436 : BitVec 32 := Scalar.remsi v423 c4_i32_241
  let c0_i32_246 : BitVec 32 := 0#32
  let v437 : BitVec 1 := Scalar.cmpi .ne v436 c0_i32_246
  let v438 : BitVec 1 := Scalar.andi v435 v437
  let v424 : BitVec 32 := Scalar.divsi v423 c4_i32_241
  let c1_i32_247 : BitVec 32 := 1#32
  let v439 : BitVec 32 := Scalar.subi v424 c1_i32_247
  let v440 : BitVec 32 := Scalar.select v438 v439 v424
  let c2_i32_254 : BitVec 32 := 2#32
  let c0_i32_255 : BitVec 32 := 0#32
  let v451 : BitVec 1 := Scalar.cmpi .eq c2_i32_254 c0_i32_255
  let c1_i32_256 : BitVec 32 := 1#32
  let v452 : BitVec 32 := Scalar.select v451 c1_i32_256 c2_i32_254
  let v453 : BitVec 32 := Scalar.remsi v440 v452
  let c0_i32_258 : BitVec 32 := 0#32
  let v455 : BitVec 1 := Scalar.cmpi .slt v453 c0_i32_258
  let c0_i32_259 : BitVec 32 := 0#32
  let v456 : BitVec 1 := Scalar.cmpi .slt v452 c0_i32_259
  let v457 : BitVec 1 := Scalar.xori v455 v456
  let c0_i32_257 : BitVec 32 := 0#32
  let v454 : BitVec 1 := Scalar.cmpi .ne v453 c0_i32_257
  let v458 : BitVec 1 := Scalar.andi v457 v454
  let v459 : BitVec 32 := Scalar.addi v453 v452
  let v460 : BitVec 32 := Scalar.select v458 v459 v453
  let c0_i32_260 : BitVec 32 := 0#32
  let v461 : BitVec 1 := Scalar.cmpi .eq v460 c0_i32_260
  let c4_i32_248 : BitVec 32 := 4#32
  let c0_i32_249 : BitVec 32 := 0#32
  let v441 : BitVec 1 := Scalar.cmpi .eq c4_i32_248 c0_i32_249
  let c1_i32_250 : BitVec 32 := 1#32
  let v442 : BitVec 32 := Scalar.select v441 c1_i32_250 c4_i32_248
  let v443 : BitVec 32 := Scalar.remsi v423 v442
  let c0_i32_252 : BitVec 32 := 0#32
  let v445 : BitVec 1 := Scalar.cmpi .slt v443 c0_i32_252
  let c0_i32_253 : BitVec 32 := 0#32
  let v446 : BitVec 1 := Scalar.cmpi .slt v442 c0_i32_253
  let v447 : BitVec 1 := Scalar.xori v445 v446
  let c0_i32_251 : BitVec 32 := 0#32
  let v444 : BitVec 1 := Scalar.cmpi .ne v443 c0_i32_251
  let v448 : BitVec 1 := Scalar.andi v447 v444
  let v449 : BitVec 32 := Scalar.addi v443 v442
  let v450 : BitVec 32 := Scalar.select v448 v449 v443
  let c3_i32_261 : BitVec 32 := 3#32
  let v462 : BitVec 32 := Scalar.subi c3_i32_261 v450
  let v463 : BitVec 32 := Scalar.select v461 v450 v462
  let v464 : BitVec 32 := Scalar.muli c4_i32_262 v463
  let v465 : BitVec 32 := Scalar.addi v464 v440
  let c256_i32_263 : BitVec 32 := 256#32
  let v466 : BitVec 32 := Scalar.muli v465 c256_i32_263
  let v467 : BitVec 32 := Scalar.addi v466 c0_i32_264
  let c0_i32_269 : BitVec 32 := 0#32
  ![v467.toNat, 0]
def k0_dev7 (d0 : Dev nD) : Nat :=
  let c0_i32_268 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_267 : BitVec 32 := 1#32
  let v468 : BitVec 32 := Scalar.muli v150 c1_i32_267
  let v469 : BitVec 32 := Scalar.addi c0_i32_268 v468
  v469.toNat
def k0_dev8 (d0 : Dev nD) : Nat :=
  let c0_i32_306 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_305 : BitVec 32 := 1#32
  let v531 : BitVec 32 := Scalar.muli v150 c1_i32_305
  let v532 : BitVec 32 := Scalar.addi c0_i32_306 v531
  v532.toNat
def k0_dev9 (d0 : Dev nD) : Nat :=
  let c0_i32_344 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_343 : BitVec 32 := 1#32
  let v594 : BitVec 32 := Scalar.muli v150 c1_i32_343
  let v595 : BitVec 32 := Scalar.addi c0_i32_344 v594
  v595.toNat
def k0_dev10 (d0 : Dev nD) : Nat :=
  let c0_i32_382 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_381 : BitVec 32 := 1#32
  let v657 : BitVec 32 := Scalar.muli v150 c1_i32_381
  let v658 : BitVec 32 := Scalar.addi c0_i32_382 v657
  v658.toNat
def k0_off4 (d0 : Dev nD) (c0_i32_386 : BitVec 32) (c0_i32_417 : BitVec 32) : Fin 2 → Nat :=
  let c4_i32_415 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let v665 : BitVec 32 := Scalar.subi v44 c0_i32_386
  let c1_i32_387 : BitVec 32 := 1#32
  let v666 : BitVec 32 := Scalar.subi v665 c1_i32_387
  let c16_i32_388 : BitVec 32 := 16#32
  let c0_i32_389 : BitVec 32 := 0#32
  let v667 : BitVec 1 := Scalar.cmpi .eq c16_i32_388 c0_i32_389
  let c1_i32_390 : BitVec 32 := 1#32
  let v668 : BitVec 32 := Scalar.select v667 c1_i32_390 c16_i32_388
  let v669 : BitVec 32 := Scalar.remsi v666 v668
  let c0_i32_392 : BitVec 32 := 0#32
  let v671 : BitVec 1 := Scalar.cmpi .slt v669 c0_i32_392
  let c0_i32_393 : BitVec 32 := 0#32
  let v672 : BitVec 1 := Scalar.cmpi .slt v668 c0_i32_393
  let v673 : BitVec 1 := Scalar.xori v671 v672
  let c0_i32_391 : BitVec 32 := 0#32
  let v670 : BitVec 1 := Scalar.cmpi .ne v669 c0_i32_391
  let v674 : BitVec 1 := Scalar.andi v673 v670
  let v675 : BitVec 32 := Scalar.addi v669 v668
  let v676 : BitVec 32 := Scalar.select v674 v675 v669
  let c0_i32_395 : BitVec 32 := 0#32
  let v678 : BitVec 1 := Scalar.cmpi .sgt v676 c0_i32_395
  let v679 : BitVec 32 := Scalar.extui v678
  let c0_i32_396 : BitVec 32 := 0#32
  let v680 : BitVec 1 := Scalar.cmpi .slt v676 c0_i32_396
  let v681 : BitVec 32 := Scalar.extui v680
  let v682 : BitVec 32 := Scalar.subi v679 v681
  let c4_i32_394 : BitVec 32 := 4#32
  let c0_i32_397 : BitVec 32 := 0#32
  let v683 : BitVec 1 := Scalar.cmpi .sgt c4_i32_394 c0_i32_397
  let v684 : BitVec 32 := Scalar.extui v683
  let c0_i32_398 : BitVec 32 := 0#32
  let v685 : BitVec 1 := Scalar.cmpi .slt c4_i32_394 c0_i32_398
  let v686 : BitVec 32 := Scalar.extui v685
  let v687 : BitVec 32 := Scalar.subi v684 v686
  let v688 : BitVec 1 := Scalar.cmpi .ne v682 v687
  let v689 : BitVec 32 := Scalar.remsi v676 c4_i32_394
  let c0_i32_399 : BitVec 32 := 0#32
  let v690 : BitVec 1 := Scalar.cmpi .ne v689 c0_i32_399
  let v691 : BitVec 1 := Scalar.andi v688 v690
  let v677 : BitVec 32 := Scalar.divsi v676 c4_i32_394
  let c1_i32_400 : BitVec 32 := 1#32
  let v692 : BitVec 32 := Scalar.subi v677 c1_i32_400
  let v693 : BitVec 32 := Scalar.select v691 v692 v677
  let c2_i32_407 : BitVec 32 := 2#32
  let c0_i32_408 : BitVec 32 := 0#32
  let v704 : BitVec 1 := Scalar.cmpi .eq c2_i32_407 c0_i32_408
  let c1_i32_409 : BitVec 32 := 1#32
  let v705 : BitVec 32 := Scalar.select v704 c1_i32_409 c2_i32_407
  let v706 : BitVec 32 := Scalar.remsi v693 v705
  let c0_i32_411 : BitVec 32 := 0#32
  let v708 : BitVec 1 := Scalar.cmpi .slt v706 c0_i32_411
  let c0_i32_412 : BitVec 32 := 0#32
  let v709 : BitVec 1 := Scalar.cmpi .slt v705 c0_i32_412
  let v710 : BitVec 1 := Scalar.xori v708 v709
  let c0_i32_410 : BitVec 32 := 0#32
  let v707 : BitVec 1 := Scalar.cmpi .ne v706 c0_i32_410
  let v711 : BitVec 1 := Scalar.andi v710 v707
  let v712 : BitVec 32 := Scalar.addi v706 v705
  let v713 : BitVec 32 := Scalar.select v711 v712 v706
  let c0_i32_413 : BitVec 32 := 0#32
  let v714 : BitVec 1 := Scalar.cmpi .eq v713 c0_i32_413
  let c4_i32_401 : BitVec 32 := 4#32
  let c0_i32_402 : BitVec 32 := 0#32
  let v694 : BitVec 1 := Scalar.cmpi .eq c4_i32_401 c0_i32_402
  let c1_i32_403 : BitVec 32 := 1#32
  let v695 : BitVec 32 := Scalar.select v694 c1_i32_403 c4_i32_401
  let v696 : BitVec 32 := Scalar.remsi v676 v695
  let c0_i32_405 : BitVec 32 := 0#32
  let v698 : BitVec 1 := Scalar.cmpi .slt v696 c0_i32_405
  let c0_i32_406 : BitVec 32 := 0#32
  let v699 : BitVec 1 := Scalar.cmpi .slt v695 c0_i32_406
  let v700 : BitVec 1 := Scalar.xori v698 v699
  let c0_i32_404 : BitVec 32 := 0#32
  let v697 : BitVec 1 := Scalar.cmpi .ne v696 c0_i32_404
  let v701 : BitVec 1 := Scalar.andi v700 v697
  let v702 : BitVec 32 := Scalar.addi v696 v695
  let v703 : BitVec 32 := Scalar.select v701 v702 v696
  let c3_i32_414 : BitVec 32 := 3#32
  let v715 : BitVec 32 := Scalar.subi c3_i32_414 v703
  let v716 : BitVec 32 := Scalar.select v714 v703 v715
  let v717 : BitVec 32 := Scalar.muli c4_i32_415 v716
  let v718 : BitVec 32 := Scalar.addi v717 v693
  let c256_i32_416 : BitVec 32 := 256#32
  let v719 : BitVec 32 := Scalar.muli v718 c256_i32_416
  let v720 : BitVec 32 := Scalar.addi v719 c0_i32_417
  let c0_i32_422 : BitVec 32 := 0#32
  ![v720.toNat, 0]
def k0_dev11 (d0 : Dev nD) : Nat :=
  let c0_i32_458 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_457 : BitVec 32 := 1#32
  let v782 : BitVec 32 := Scalar.muli v97 c1_i32_457
  let v783 : BitVec 32 := Scalar.addi c0_i32_458 v782
  v783.toNat
def k0_dev12 (d0 : Dev nD) : Nat :=
  let c0_i32_532 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_531 : BitVec 32 := 1#32
  let v907 : BitVec 32 := Scalar.muli v97 c1_i32_531
  let v908 : BitVec 32 := Scalar.addi c0_i32_532 v907
  v908.toNat
def k0_dev13 (d0 : Dev nD) : Nat :=
  let c0_i32_606 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_605 : BitVec 32 := 1#32
  let v1032 : BitVec 32 := Scalar.muli v97 c1_i32_605
  let v1033 : BitVec 32 := Scalar.addi c0_i32_606 v1032
  v1033.toNat
def k0_dev14 (d0 : Dev nD) : Nat :=
  let c0_i32_680 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_679 : BitVec 32 := 1#32
  let v1157 : BitVec 32 := Scalar.muli v97 c1_i32_679
  let v1158 : BitVec 32 := Scalar.addi c0_i32_680 v1157
  v1158.toNat
def k0_off5 (d0 : Dev nD) (c0_i32_683 : BitVec 32) (c0_i32_714 : BitVec 32) : Fin 2 → Nat :=
  let c4_i32_712 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let v1165 : BitVec 32 := Scalar.addi v44 c0_i32_683
  let c1_i32_684 : BitVec 32 := 1#32
  let v1166 : BitVec 32 := Scalar.addi v1165 c1_i32_684
  let c16_i32_685 : BitVec 32 := 16#32
  let c0_i32_686 : BitVec 32 := 0#32
  let v1167 : BitVec 1 := Scalar.cmpi .eq c16_i32_685 c0_i32_686
  let c1_i32_687 : BitVec 32 := 1#32
  let v1168 : BitVec 32 := Scalar.select v1167 c1_i32_687 c16_i32_685
  let v1169 : BitVec 32 := Scalar.remsi v1166 v1168
  let c0_i32_689 : BitVec 32 := 0#32
  let v1171 : BitVec 1 := Scalar.cmpi .slt v1169 c0_i32_689
  let c0_i32_690 : BitVec 32 := 0#32
  let v1172 : BitVec 1 := Scalar.cmpi .slt v1168 c0_i32_690
  let v1173 : BitVec 1 := Scalar.xori v1171 v1172
  let c0_i32_688 : BitVec 32 := 0#32
  let v1170 : BitVec 1 := Scalar.cmpi .ne v1169 c0_i32_688
  let v1174 : BitVec 1 := Scalar.andi v1173 v1170
  let v1175 : BitVec 32 := Scalar.addi v1169 v1168
  let v1176 : BitVec 32 := Scalar.select v1174 v1175 v1169
  let c0_i32_692 : BitVec 32 := 0#32
  let v1178 : BitVec 1 := Scalar.cmpi .sgt v1176 c0_i32_692
  let v1179 : BitVec 32 := Scalar.extui v1178
  let c0_i32_693 : BitVec 32 := 0#32
  let v1180 : BitVec 1 := Scalar.cmpi .slt v1176 c0_i32_693
  let v1181 : BitVec 32 := Scalar.extui v1180
  let v1182 : BitVec 32 := Scalar.subi v1179 v1181
  let c4_i32_691 : BitVec 32 := 4#32
  let c0_i32_694 : BitVec 32 := 0#32
  let v1183 : BitVec 1 := Scalar.cmpi .sgt c4_i32_691 c0_i32_694
  let v1184 : BitVec 32 := Scalar.extui v1183
  let c0_i32_695 : BitVec 32 := 0#32
  let v1185 : BitVec 1 := Scalar.cmpi .slt c4_i32_691 c0_i32_695
  let v1186 : BitVec 32 := Scalar.extui v1185
  let v1187 : BitVec 32 := Scalar.subi v1184 v1186
  let v1188 : BitVec 1 := Scalar.cmpi .ne v1182 v1187
  let v1189 : BitVec 32 := Scalar.remsi v1176 c4_i32_691
  let c0_i32_696 : BitVec 32 := 0#32
  let v1190 : BitVec 1 := Scalar.cmpi .ne v1189 c0_i32_696
  let v1191 : BitVec 1 := Scalar.andi v1188 v1190
  let v1177 : BitVec 32 := Scalar.divsi v1176 c4_i32_691
  let c1_i32_697 : BitVec 32 := 1#32
  let v1192 : BitVec 32 := Scalar.subi v1177 c1_i32_697
  let v1193 : BitVec 32 := Scalar.select v1191 v1192 v1177
  let c2_i32_704 : BitVec 32 := 2#32
  let c0_i32_705 : BitVec 32 := 0#32
  let v1204 : BitVec 1 := Scalar.cmpi .eq c2_i32_704 c0_i32_705
  let c1_i32_706 : BitVec 32 := 1#32
  let v1205 : BitVec 32 := Scalar.select v1204 c1_i32_706 c2_i32_704
  let v1206 : BitVec 32 := Scalar.remsi v1193 v1205
  let c0_i32_708 : BitVec 32 := 0#32
  let v1208 : BitVec 1 := Scalar.cmpi .slt v1206 c0_i32_708
  let c0_i32_709 : BitVec 32 := 0#32
  let v1209 : BitVec 1 := Scalar.cmpi .slt v1205 c0_i32_709
  let v1210 : BitVec 1 := Scalar.xori v1208 v1209
  let c0_i32_707 : BitVec 32 := 0#32
  let v1207 : BitVec 1 := Scalar.cmpi .ne v1206 c0_i32_707
  let v1211 : BitVec 1 := Scalar.andi v1210 v1207
  let v1212 : BitVec 32 := Scalar.addi v1206 v1205
  let v1213 : BitVec 32 := Scalar.select v1211 v1212 v1206
  let c0_i32_710 : BitVec 32 := 0#32
  let v1214 : BitVec 1 := Scalar.cmpi .eq v1213 c0_i32_710
  let c4_i32_698 : BitVec 32 := 4#32
  let c0_i32_699 : BitVec 32 := 0#32
  let v1194 : BitVec 1 := Scalar.cmpi .eq c4_i32_698 c0_i32_699
  let c1_i32_700 : BitVec 32 := 1#32
  let v1195 : BitVec 32 := Scalar.select v1194 c1_i32_700 c4_i32_698
  let v1196 : BitVec 32 := Scalar.remsi v1176 v1195
  let c0_i32_702 : BitVec 32 := 0#32
  let v1198 : BitVec 1 := Scalar.cmpi .slt v1196 c0_i32_702
  let c0_i32_703 : BitVec 32 := 0#32
  let v1199 : BitVec 1 := Scalar.cmpi .slt v1195 c0_i32_703
  let v1200 : BitVec 1 := Scalar.xori v1198 v1199
  let c0_i32_701 : BitVec 32 := 0#32
  let v1197 : BitVec 1 := Scalar.cmpi .ne v1196 c0_i32_701
  let v1201 : BitVec 1 := Scalar.andi v1200 v1197
  let v1202 : BitVec 32 := Scalar.addi v1196 v1195
  let v1203 : BitVec 32 := Scalar.select v1201 v1202 v1196
  let c3_i32_711 : BitVec 32 := 3#32
  let v1215 : BitVec 32 := Scalar.subi c3_i32_711 v1203
  let v1216 : BitVec 32 := Scalar.select v1214 v1203 v1215
  let v1217 : BitVec 32 := Scalar.muli c4_i32_712 v1216
  let v1218 : BitVec 32 := Scalar.addi v1217 v1193
  let c256_i32_713 : BitVec 32 := 256#32
  let v1219 : BitVec 32 := Scalar.muli v1218 c256_i32_713
  let v1220 : BitVec 32 := Scalar.addi v1219 c0_i32_714
  let c0_i32_719 : BitVec 32 := 0#32
  ![v1220.toNat, 0]
def k0_dev15 (d0 : Dev nD) : Nat :=
  let c0_i32_755 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_754 : BitVec 32 := 1#32
  let v1282 : BitVec 32 := Scalar.muli v150 c1_i32_754
  let v1283 : BitVec 32 := Scalar.addi c0_i32_755 v1282
  v1283.toNat
def k0_dev16 (d0 : Dev nD) : Nat :=
  let c0_i32_830 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_829 : BitVec 32 := 1#32
  let v1407 : BitVec 32 := Scalar.muli v150 c1_i32_829
  let v1408 : BitVec 32 := Scalar.addi c0_i32_830 v1407
  v1408.toNat
def k0_dev17 (d0 : Dev nD) : Nat :=
  let c0_i32_905 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_904 : BitVec 32 := 1#32
  let v1532 : BitVec 32 := Scalar.muli v150 c1_i32_904
  let v1533 : BitVec 32 := Scalar.addi c0_i32_905 v1532
  v1533.toNat
def k0_dev18 (d0 : Dev nD) : Nat :=
  let c0_i32_980 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_979 : BitVec 32 := 1#32
  let v1657 : BitVec 32 := Scalar.muli v150 c1_i32_979
  let v1658 : BitVec 32 := Scalar.addi c0_i32_980 v1657
  v1658.toNat
def k0_dev19 (d0 : Dev nD) : Nat :=
  let c0_i32_1054 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1053 : BitVec 32 := 1#32
  let v1782 : BitVec 32 := Scalar.muli v97 c1_i32_1053
  let v1783 : BitVec 32 := Scalar.addi c0_i32_1054 v1782
  v1783.toNat
def k0_dev20 (d0 : Dev nD) : Nat :=
  let c0_i32_1128 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1127 : BitVec 32 := 1#32
  let v1907 : BitVec 32 := Scalar.muli v97 c1_i32_1127
  let v1908 : BitVec 32 := Scalar.addi c0_i32_1128 v1907
  v1908.toNat
def k0_dev21 (d0 : Dev nD) : Nat :=
  let c0_i32_1202 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1201 : BitVec 32 := 1#32
  let v2032 : BitVec 32 := Scalar.muli v97 c1_i32_1201
  let v2033 : BitVec 32 := Scalar.addi c0_i32_1202 v2032
  v2033.toNat
def k0_dev22 (d0 : Dev nD) : Nat :=
  let c0_i32_1276 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1275 : BitVec 32 := 1#32
  let v2157 : BitVec 32 := Scalar.muli v97 c1_i32_1275
  let v2158 : BitVec 32 := Scalar.addi c0_i32_1276 v2157
  v2158.toNat
def k0_dev23 (d0 : Dev nD) : Nat :=
  let c0_i32_1351 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1350 : BitVec 32 := 1#32
  let v2282 : BitVec 32 := Scalar.muli v150 c1_i32_1350
  let v2283 : BitVec 32 := Scalar.addi c0_i32_1351 v2282
  v2283.toNat
def k0_dev24 (d0 : Dev nD) : Nat :=
  let c0_i32_1426 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1425 : BitVec 32 := 1#32
  let v2407 : BitVec 32 := Scalar.muli v150 c1_i32_1425
  let v2408 : BitVec 32 := Scalar.addi c0_i32_1426 v2407
  v2408.toNat
def k0_dev25 (d0 : Dev nD) : Nat :=
  let c0_i32_1501 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1500 : BitVec 32 := 1#32
  let v2532 : BitVec 32 := Scalar.muli v150 c1_i32_1500
  let v2533 : BitVec 32 := Scalar.addi c0_i32_1501 v2532
  v2533.toNat
def k0_dev26 (d0 : Dev nD) : Nat :=
  let c0_i32_1576 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1575 : BitVec 32 := 1#32
  let v2657 : BitVec 32 := Scalar.muli v150 c1_i32_1575
  let v2658 : BitVec 32 := Scalar.addi c0_i32_1576 v2657
  v2658.toNat
def k0_dev27 (d0 : Dev nD) : Nat :=
  let c0_i32_1650 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1649 : BitVec 32 := 1#32
  let v2782 : BitVec 32 := Scalar.muli v97 c1_i32_1649
  let v2783 : BitVec 32 := Scalar.addi c0_i32_1650 v2782
  v2783.toNat
def k0_dev28 (d0 : Dev nD) : Nat :=
  let c0_i32_1724 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1723 : BitVec 32 := 1#32
  let v2907 : BitVec 32 := Scalar.muli v97 c1_i32_1723
  let v2908 : BitVec 32 := Scalar.addi c0_i32_1724 v2907
  v2908.toNat
def k0_dev29 (d0 : Dev nD) : Nat :=
  let c0_i32_1798 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1797 : BitVec 32 := 1#32
  let v3032 : BitVec 32 := Scalar.muli v97 c1_i32_1797
  let v3033 : BitVec 32 := Scalar.addi c0_i32_1798 v3032
  v3033.toNat
def k0_dev30 (d0 : Dev nD) : Nat :=
  let c0_i32_1872 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1871 : BitVec 32 := 1#32
  let v3157 : BitVec 32 := Scalar.muli v97 c1_i32_1871
  let v3158 : BitVec 32 := Scalar.addi c0_i32_1872 v3157
  v3158.toNat
def k0_dev31 (d0 : Dev nD) : Nat :=
  let c0_i32_1947 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1946 : BitVec 32 := 1#32
  let v3282 : BitVec 32 := Scalar.muli v150 c1_i32_1946
  let v3283 : BitVec 32 := Scalar.addi c0_i32_1947 v3282
  v3283.toNat
def k0_dev32 (d0 : Dev nD) : Nat :=
  let c0_i32_2022 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2021 : BitVec 32 := 1#32
  let v3407 : BitVec 32 := Scalar.muli v150 c1_i32_2021
  let v3408 : BitVec 32 := Scalar.addi c0_i32_2022 v3407
  v3408.toNat
def k0_dev33 (d0 : Dev nD) : Nat :=
  let c0_i32_2097 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2096 : BitVec 32 := 1#32
  let v3532 : BitVec 32 := Scalar.muli v150 c1_i32_2096
  let v3533 : BitVec 32 := Scalar.addi c0_i32_2097 v3532
  v3533.toNat
def k0_dev34 (d0 : Dev nD) : Nat :=
  let c0_i32_2172 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2171 : BitVec 32 := 1#32
  let v3657 : BitVec 32 := Scalar.muli v150 c1_i32_2171
  let v3658 : BitVec 32 := Scalar.addi c0_i32_2172 v3657
  v3658.toNat
def k0_dev35 (d0 : Dev nD) : Nat :=
  let c0_i32_2247 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2246 : BitVec 32 := 1#32
  let v3782 : BitVec 32 := Scalar.muli v97 c1_i32_2246
  let v3783 : BitVec 32 := Scalar.addi c0_i32_2247 v3782
  v3783.toNat
def k0_dev36 (d0 : Dev nD) : Nat :=
  let c0_i32_2321 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2320 : BitVec 32 := 1#32
  let v3907 : BitVec 32 := Scalar.muli v97 c1_i32_2320
  let v3908 : BitVec 32 := Scalar.addi c0_i32_2321 v3907
  v3908.toNat
def k0_dev37 (d0 : Dev nD) : Nat :=
  let c0_i32_2395 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2394 : BitVec 32 := 1#32
  let v4032 : BitVec 32 := Scalar.muli v97 c1_i32_2394
  let v4033 : BitVec 32 := Scalar.addi c0_i32_2395 v4032
  v4033.toNat
def k0_dev38 (d0 : Dev nD) : Nat :=
  let c0_i32_2469 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2468 : BitVec 32 := 1#32
  let v4157 : BitVec 32 := Scalar.muli v97 c1_i32_2468
  let v4158 : BitVec 32 := Scalar.addi c0_i32_2469 v4157
  v4158.toNat
def k0_dev39 (d0 : Dev nD) : Nat :=
  let c0_i32_2544 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2543 : BitVec 32 := 1#32
  let v4282 : BitVec 32 := Scalar.muli v150 c1_i32_2543
  let v4283 : BitVec 32 := Scalar.addi c0_i32_2544 v4282
  v4283.toNat
def k0_dev40 (d0 : Dev nD) : Nat :=
  let c0_i32_2619 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2618 : BitVec 32 := 1#32
  let v4407 : BitVec 32 := Scalar.muli v150 c1_i32_2618
  let v4408 : BitVec 32 := Scalar.addi c0_i32_2619 v4407
  v4408.toNat
def k0_dev41 (d0 : Dev nD) : Nat :=
  let c0_i32_2694 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2693 : BitVec 32 := 1#32
  let v4532 : BitVec 32 := Scalar.muli v150 c1_i32_2693
  let v4533 : BitVec 32 := Scalar.addi c0_i32_2694 v4532
  v4533.toNat
def k0_dev42 (d0 : Dev nD) : Nat :=
  let c0_i32_2769 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2768 : BitVec 32 := 1#32
  let v4657 : BitVec 32 := Scalar.muli v150 c1_i32_2768
  let v4658 : BitVec 32 := Scalar.addi c0_i32_2769 v4657
  v4658.toNat
def k0_dev43 (d0 : Dev nD) : Nat :=
  let c0_i32_2843 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2842 : BitVec 32 := 1#32
  let v4782 : BitVec 32 := Scalar.muli v97 c1_i32_2842
  let v4783 : BitVec 32 := Scalar.addi c0_i32_2843 v4782
  v4783.toNat
def k0_dev44 (d0 : Dev nD) : Nat :=
  let c0_i32_2917 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2916 : BitVec 32 := 1#32
  let v4907 : BitVec 32 := Scalar.muli v97 c1_i32_2916
  let v4908 : BitVec 32 := Scalar.addi c0_i32_2917 v4907
  v4908.toNat
def k0_dev45 (d0 : Dev nD) : Nat :=
  let c0_i32_2991 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2990 : BitVec 32 := 1#32
  let v5032 : BitVec 32 := Scalar.muli v97 c1_i32_2990
  let v5033 : BitVec 32 := Scalar.addi c0_i32_2991 v5032
  v5033.toNat
def k0_dev46 (d0 : Dev nD) : Nat :=
  let c0_i32_3065 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3064 : BitVec 32 := 1#32
  let v5157 : BitVec 32 := Scalar.muli v97 c1_i32_3064
  let v5158 : BitVec 32 := Scalar.addi c0_i32_3065 v5157
  v5158.toNat
def k0_dev47 (d0 : Dev nD) : Nat :=
  let c0_i32_3140 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3139 : BitVec 32 := 1#32
  let v5282 : BitVec 32 := Scalar.muli v150 c1_i32_3139
  let v5283 : BitVec 32 := Scalar.addi c0_i32_3140 v5282
  v5283.toNat
def k0_dev48 (d0 : Dev nD) : Nat :=
  let c0_i32_3215 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3214 : BitVec 32 := 1#32
  let v5407 : BitVec 32 := Scalar.muli v150 c1_i32_3214
  let v5408 : BitVec 32 := Scalar.addi c0_i32_3215 v5407
  v5408.toNat
def k0_dev49 (d0 : Dev nD) : Nat :=
  let c0_i32_3290 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3289 : BitVec 32 := 1#32
  let v5532 : BitVec 32 := Scalar.muli v150 c1_i32_3289
  let v5533 : BitVec 32 := Scalar.addi c0_i32_3290 v5532
  v5533.toNat
def k0_dev50 (d0 : Dev nD) : Nat :=
  let c0_i32_3365 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3364 : BitVec 32 := 1#32
  let v5657 : BitVec 32 := Scalar.muli v150 c1_i32_3364
  let v5658 : BitVec 32 := Scalar.addi c0_i32_3365 v5657
  v5658.toNat
def k0_dev51 (d0 : Dev nD) : Nat :=
  let c0_i32_3439 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3438 : BitVec 32 := 1#32
  let v5782 : BitVec 32 := Scalar.muli v97 c1_i32_3438
  let v5783 : BitVec 32 := Scalar.addi c0_i32_3439 v5782
  v5783.toNat
def k0_dev52 (d0 : Dev nD) : Nat :=
  let c0_i32_3513 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3512 : BitVec 32 := 1#32
  let v5907 : BitVec 32 := Scalar.muli v97 c1_i32_3512
  let v5908 : BitVec 32 := Scalar.addi c0_i32_3513 v5907
  v5908.toNat
def k0_dev53 (d0 : Dev nD) : Nat :=
  let c0_i32_3587 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3586 : BitVec 32 := 1#32
  let v6032 : BitVec 32 := Scalar.muli v97 c1_i32_3586
  let v6033 : BitVec 32 := Scalar.addi c0_i32_3587 v6032
  v6033.toNat
def k0_dev54 (d0 : Dev nD) : Nat :=
  let c0_i32_3661 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3660 : BitVec 32 := 1#32
  let v6157 : BitVec 32 := Scalar.muli v97 c1_i32_3660
  let v6158 : BitVec 32 := Scalar.addi c0_i32_3661 v6157
  v6158.toNat
def k0_dev55 (d0 : Dev nD) : Nat :=
  let c0_i32_3736 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3735 : BitVec 32 := 1#32
  let v6282 : BitVec 32 := Scalar.muli v150 c1_i32_3735
  let v6283 : BitVec 32 := Scalar.addi c0_i32_3736 v6282
  v6283.toNat
def k0_dev56 (d0 : Dev nD) : Nat :=
  let c0_i32_3811 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3810 : BitVec 32 := 1#32
  let v6407 : BitVec 32 := Scalar.muli v150 c1_i32_3810
  let v6408 : BitVec 32 := Scalar.addi c0_i32_3811 v6407
  v6408.toNat
def k0_dev57 (d0 : Dev nD) : Nat :=
  let c0_i32_3886 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3885 : BitVec 32 := 1#32
  let v6532 : BitVec 32 := Scalar.muli v150 c1_i32_3885
  let v6533 : BitVec 32 := Scalar.addi c0_i32_3886 v6532
  v6533.toNat
def k0_dev58 (d0 : Dev nD) : Nat :=
  let c0_i32_3961 : BitVec 32 := 0#32
  let c4_i32_75 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3960 : BitVec 32 := 1#32
  let v6657 : BitVec 32 := Scalar.muli v150 c1_i32_3960
  let v6658 : BitVec 32 := Scalar.addi c0_i32_3961 v6657
  v6658.toNat
def k0_dev59 (d0 : Dev nD) : Nat :=
  let c0_i32_4035 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_4034 : BitVec 32 := 1#32
  let v6782 : BitVec 32 := Scalar.muli v97 c1_i32_4034
  let v6783 : BitVec 32 := Scalar.addi c0_i32_4035 v6782
  v6783.toNat
def k0_dev60 (d0 : Dev nD) : Nat :=
  let c0_i32_4109 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_4108 : BitVec 32 := 1#32
  let v6907 : BitVec 32 := Scalar.muli v97 c1_i32_4108
  let v6908 : BitVec 32 := Scalar.addi c0_i32_4109 v6907
  v6908.toNat
def k0_dev61 (d0 : Dev nD) : Nat :=
  let c0_i32_4183 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_4182 : BitVec 32 := 1#32
  let v7032 : BitVec 32 := Scalar.muli v97 c1_i32_4182
  let v7033 : BitVec 32 := Scalar.addi c0_i32_4183 v7032
  v7033.toNat
def k0_dev62 (d0 : Dev nD) : Nat :=
  let c0_i32_4257 : BitVec 32 := 0#32
  let c4_i32_46 : BitVec 32 := 4#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c4_i32_11 v29
  let c2_i32 : BitVec 32 := 2#32
  let c0_i32_12 : BitVec 32 := 0#32
  let v31 : BitVec 1 := Scalar.cmpi .eq c2_i32 c0_i32_12
  let c1_i32_13 : BitVec 32 := 1#32
  let v32 : BitVec 32 := Scalar.select v31 c1_i32_13 c2_i32
  let v33 : BitVec 32 := Scalar.remsi v29 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v42 : BitVec 32 := Scalar.subi c3_i32 v19
  let v43 : BitVec 32 := Scalar.select v41 v19 v42
  let v44 : BitVec 32 := Scalar.addi v30 v43
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_4256 : BitVec 32 := 1#32
  let v7157 : BitVec 32 := Scalar.muli v97 c1_i32_4256
  let v7158 : BitVec 32 := Scalar.addi c0_i32_4257 v7157
  v7158.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x256 : Shape := ⟨2, ![4096, 256]⟩

abbrev nBuf : Space → Nat
  | .hbm => 1
  | .vmem => 0
  | .smem => 0
  | _ => 0

abbrev bufTy : (tb : Table) → Fin (tcTables nBuf tb) → BufTy
  | .hbm, ⟨0, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Text.lean ====
/-
The kernel's body as a short text: the handshake, the copy of the device's own block, and then a list of steps,
each the start of one transfer, the wait for one that arrives, or the wait for one that leaves.

A transfer is named by its direction, its hop and its quarter block: `Sum.inl (h, s)` goes to the next device of the
cycle at hop `h < 8`, `Sum.inr (h, s)` to the device before it at hop `h < 7`, and `s < 4` says which 64 rows of the
256-row block it carries.
-/
module

public import proofs.«01_k».proof.Proof.Gen.KernelIdeal
public import proofs.«01_k».proof.Proof.Gen.KernelIdeal.Skeleton
public import Idealize.ShloMosaic.Lib.Pipeline.Regions

@[expose] public section

noncomputable section

namespace Cert.Ring

open Cert.KernelIdeal Cert.KernelIdeal.Gen
open Idealize.ShloMosaic Idealize.SL.Sem

variable {F : FTy → Type} [FloatOps F]

/-- The sixty transfers a device starts: eight hops one way round and seven the other, four quarter blocks each. -/
abbrev Tr : Type := (Fin 8 × Fin 4) ⊕ (Fin 7 × Fin 4)

/-- One step of the body after the handshake. -/
inductive Step where
  | send (t : Tr)
  | recv (t : Tr)
  | done (t : Tr)

/-- The kernel's staging buffers: the device's block of the argument, and the whole result. -/
abbrev xM : Memref sig .tc .vmem S256x256 .f32 := Memref.whole cc0_stg0_0
abbrev oM : Memref sig .tc .vmem S4096x256 .f32 := Memref.whole cc0_stg1_0

/-- The barrier semaphore. -/
abbrev barS : Sem sig := (SemArray.scalar (sig.barrier 0 rfl) : Sems sig S_).sem

theorem inbR (h : Fin 8) (s : Fin 4) : ∀ a, (![4 * h.val + s.val] : Fin 1 → Nat) a + S1.size a ≤ S32.size a := by
  revert h s; decide
theorem inbL (h : Fin 7) (s : Fin 4) : ∀ a, (![4 * h.val + s.val] : Fin 1 → Nat) a + S1.size a ≤ S28.size a := by
  revert h s; decide
theorem inbX (s : Fin 4) : ∀ a, (![64 * s.val, 0] : Fin 2 → Nat) a + S64x256.size a ≤ S256x256.size a := by
  revert s; decide

/-- The semaphore a transfer's departure is counted on, at its sender. -/
def sendS : Tr → DmaSem sig
  | .inl (h, s) => ((cc0_scratch0.slice (Rect.unit (s := S32) ![4 * h.val + s.val] S1.size (inbR h s))).squeeze S_ squeezes_S1_S_).sem
  | .inr (h, s) => ((cc0_scratch2.slice (Rect.unit (s := S28) ![4 * h.val + s.val] S1.size (inbL h s))).squeeze S_ squeezes_S1_S_).sem

/-- The semaphore a transfer's arrival is counted on, at its receiver. -/
def recvS : Tr → DmaSem sig
  | .inl (h, s) => ((cc0_scratch1.slice (Rect.unit (s := S32) ![4 * h.val + s.val] S1.size (inbR h s))).squeeze S_ squeezes_S1_S_).sem
  | .inr (h, s) => ((cc0_scratch3.slice (Rect.unit (s := S28) ![4 * h.val + s.val] S1.size (inbL h s))).squeeze S_ squeezes_S1_S_).sem

/-- The rows of the result a device sends in a transfer: the same on both devices. -/
def sentM (d : Dev nD) : Tr → Memref sig .tc .vmem S64x256 .f32
  | .inl (h, s) => oM.slice (Rect.unit (s := S4096x256) (k0_off2 d (BitVec.ofNat 32 h.val) (BitVec.ofNat 32 (64 * s.val))) S64x256.size (k0_off2_inb d h s)) (fun _ => rfl)
  | .inr (h, s) => oM.slice (Rect.unit (s := S4096x256) (k0_off3 d (BitVec.ofNat 32 h.val) (BitVec.ofNat 32 (64 * s.val))) S64x256.size (k0_off3_inb d h s)) (fun _ => rfl)

/-- The rows of the result that arrive at a device in a transfer. -/
def gotM (d : Dev nD) : Tr → Memref sig .tc .vmem S64x256 .f32
  | .inl (h, s) => oM.slice (Rect.unit (s := S4096x256) (k0_off4 d (BitVec.ofNat 32 h.val) (BitVec.ofNat 32 (64 * s.val))) S64x256.size (k0_off4_inb d h s)) (fun _ => rfl)
  | .inr (h, s) => oM.slice (Rect.unit (s := S4096x256) (k0_off5 d (BitVec.ofNat 32 h.val) (BitVec.ofNat 32 (64 * s.val))) S64x256.size (k0_off5_inb d h s)) (fun _ => rfl)

/-- A quarter of the staged argument block. -/
def quarterM (s : Fin 4) : Memref sig .tc .vmem S64x256 .f32 :=
  xM.slice (Rect.unit (s := S256x256) ![64 * s.val, 0] S64x256.size (inbX s)) (fun _ => rfl)

/-- Where a transfer reads: the staged argument at hop 0, the result's rows that arrived one hop earlier after it. -/
def fromM (d : Dev nD) : Tr → Memref sig .tc .vmem S64x256 .f32
  | .inl (⟨0, _⟩, s) => quarterM s
  | .inl (⟨h + 1, p⟩, s) => sentM d (.inl (⟨h + 1, p⟩, s))
  | .inr (⟨0, _⟩, s) => quarterM s
  | .inr (⟨h + 1, p⟩, s) => sentM d (.inr (⟨h + 1, p⟩, s))

/-- The device each transfer is addressed to, as the program computes it. -/
def target (d : Dev nD) : Tr → Dev nD
  | .inl (0, 0) => ⟨k0_dev3 d, k0_dev3_lt d⟩
  | .inl (0, 1) => ⟨k0_dev4 d, k0_dev4_lt d⟩
  | .inl (0, 2) => ⟨k0_dev5 d, k0_dev5_lt d⟩
  | .inl (0, 3) => ⟨k0_dev6 d, k0_dev6_lt d⟩
  | .inl (1, 0) => ⟨k0_dev11 d, k0_dev11_lt d⟩
  | .inl (1, 1) => ⟨k0_dev12 d, k0_dev12_lt d⟩
  | .inl (1, 2) => ⟨k0_dev13 d, k0_dev13_lt d⟩
  | .inl (1, 3) => ⟨k0_dev14 d, k0_dev14_lt d⟩
  | .inl (2, 0) => ⟨k0_dev19 d, k0_dev19_lt d⟩
  | .inl (2, 1) => ⟨k0_dev20 d, k0_dev20_lt d⟩
  | .inl (2, 2) => ⟨k0_dev21 d, k0_dev21_lt d⟩
  | .inl (2, 3) => ⟨k0_dev22 d, k0_dev22_lt d⟩
  | .inl (3, 0) => ⟨k0_dev27 d, k0_dev27_lt d⟩
  | .inl (3, 1) => ⟨k0_dev28 d, k0_dev28_lt d⟩
  | .inl (3, 2) => ⟨k0_dev29 d, k0_dev29_lt d⟩
  | .inl (3, 3) => ⟨k0_dev30 d, k0_dev30_lt d⟩
  | .inl (4, 0) => ⟨k0_dev35 d, k0_dev35_lt d⟩
  | .inl (4, 1) => ⟨k0_dev36 d, k0_dev36_lt d⟩
  | .inl (4, 2) => ⟨k0_dev37 d, k0_dev37_lt d⟩
  | .inl (4, 3) => ⟨k0_dev38 d, k0_dev38_lt d⟩
  | .inl (5, 0) => ⟨k0_dev43 d, k0_dev43_lt d⟩
  | .inl (5, 1) => ⟨k0_dev44 d, k0_dev44_lt d⟩
  | .inl (5, 2) => ⟨k0_dev45 d, k0_dev45_lt d⟩
  | .inl (5, 3) => ⟨k0_dev46 d, k0_dev46_lt d⟩
  | .inl (6, 0) => ⟨k0_dev51 d, k0_dev51_lt d⟩
  | .inl (6, 1) => ⟨k0_dev52 d, k0_dev52_lt d⟩
  | .inl (6, 2) => ⟨k0_dev53 d, k0_dev53_lt d⟩
  | .inl (6, 3) => ⟨k0_dev54 d, k0_dev54_lt d⟩
  | .inl (7, 0) => ⟨k0_dev59 d, k0_dev59_lt d⟩
  | .inl (7, 1) => ⟨k0_dev60 d, k0_dev60_lt d⟩
  | .inl (7, 2) => ⟨k0_dev61 d, k0_dev61_lt d⟩
  | .inl (7, 3) => ⟨k0_dev62 d, k0_dev62_lt d⟩
  | .inr (0, 0) => ⟨k0_dev7 d, k0_dev7_lt d⟩
  | .inr (0, 1) => ⟨k0_dev8 d, k0_dev8_lt d⟩
  | .inr (0, 2) => ⟨k0_dev9 d, k0_dev9_lt d⟩
  | .inr (0, 3) => ⟨k0_dev10 d, k0_dev10_lt d⟩
  | .inr (1, 0) => ⟨k0_dev15 d, k0_dev15_lt d⟩
  | .inr (1, 1) => ⟨k0_dev16 d, k0_dev16_lt d⟩
  | .inr (1, 2) => ⟨k0_dev17 d, k0_dev17_lt d⟩
  | .inr (1, 3) => ⟨k0_dev18 d, k0_dev18_lt d⟩
  | .inr (2, 0) => ⟨k0_dev23 d, k0_dev23_lt d⟩
  | .inr (2, 1) => ⟨k0_dev24 d, k0_dev24_lt d⟩
  | .inr (2, 2) => ⟨k0_dev25 d, k0_dev25_lt d⟩
  | .inr (2, 3) => ⟨k0_dev26 d, k0_dev26_lt d⟩
  | .inr (3, 0) => ⟨k0_dev31 d, k0_dev31_lt d⟩
  | .inr (3, 1) => ⟨k0_dev32 d, k0_dev32_lt d⟩
  | .inr (3, 2) => ⟨k0_dev33 d, k0_dev33_lt d⟩
  | .inr (3, 3) => ⟨k0_dev34 d, k0_dev34_lt d⟩
  | .inr (4, 0) => ⟨k0_dev39 d, k0_dev39_lt d⟩
  | .inr (4, 1) => ⟨k0_dev40 d, k0_dev40_lt d⟩
  | .inr (4, 2) => ⟨k0_dev41 d, k0_dev41_lt d⟩
  | .inr (4, 3) => ⟨k0_dev42 d, k0_dev42_lt d⟩
  | .inr (5, 0) => ⟨k0_dev47 d, k0_dev47_lt d⟩
  | .inr (5, 1) => ⟨k0_dev48 d, k0_dev48_lt d⟩
  | .inr (5, 2) => ⟨k0_dev49 d, k0_dev49_lt d⟩
  | .inr (5, 3) => ⟨k0_dev50 d, k0_dev50_lt d⟩
  | .inr (6, 0) => ⟨k0_dev55 d, k0_dev55_lt d⟩
  | .inr (6, 1) => ⟨k0_dev56 d, k0_dev56_lt d⟩
  | .inr (6, 2) => ⟨k0_dev57 d, k0_dev57_lt d⟩
  | .inr (6, 3) => ⟨k0_dev58 d, k0_dev58_lt d⟩

theorem sentM_notScratch (d : Dev nD) (t : Tr) : (sentM d t).view.ref.isScScratch = false := by
  rcases t with ⟨h, s⟩ | ⟨h, s⟩ <;> rfl
/-- The effect of a step on device `d`. -/
def eff (d : Dev nD) : Step → TpuEff nD τ sig (Elt F) Λ₀ .tc PUnit
  | .send t => .enqueueDma (fromM d t) (.remote (Dev.tc (target d t)) (sentM d t) (.dma (sendS t)) (sentM_notScratch d t)) (.dma (recvS t))
      (View.wordExact_bits rfl) (View.wordExact_bits rfl) ⟨⟨rfl, Or.inl rfl⟩, trivial⟩
  | .recv t => .waitDma2 (recvS t) (gotM d t) (gotM d t) (View.wordExact_bits rfl) (View.wordExact_bits rfl)
  | .done t => .waitDma2 (sendS t) (sentM d t) (fromM d t) (View.wordExact_bits rfl) (View.wordExact_bits rfl)

/-- The run of a list of steps. -/
def run (d : Dev nD) : List Step → Prog (TpuEff nD τ sig (Elt F) Λ₀ .tc) PUnit
  | [] => .ret ⟨⟩
  | i :: l => .op (eff d i) fun _ => run d l

/-- The four quarters of one hop, one way round or the other. -/
def quarters : List (Fin 4) := [0, 1, 2, 3]
def hopR (h : Fin 8) : List Tr := quarters.map fun s => .inl (h, s)
def hopL (h : Fin 7) : List Tr := quarters.map fun s => .inr (h, s)

/-- Hop `h + 1` of each direction: every quarter is sent on as soon as it has arrived. -/
def passR (h : Fin 7) : List Step := quarters.flatMap fun s => [.recv (.inl (h.castSucc, s)), .send (.inl (h.succ, s))]
def passL (h : Fin 6) : List Step := quarters.flatMap fun s => [.recv (.inr (h.castSucc, s)), .send (.inr (h.succ, s))]

/-- Every transfer in the order the program starts them. -/
def sendOrder : List Tr :=
  hopR 0 ++ hopL 0 ++ ([0, 1, 2, 3, 4, 5] : List (Fin 6)).flatMap (fun h => hopR h.castSucc.succ ++ hopL h.succ) ++ hopR 7

/-- All the steps after the own block is stored, in program order. -/
def steps : List Step :=
  (hopR 0).map .send ++ (hopL 0).map .send
    ++ ([0, 1, 2, 3, 4, 5] : List (Fin 6)).flatMap (fun h => passR h.castSucc ++ passL h) ++ passR 6
    ++ (hopR 7).map .recv ++ (hopL 6).map .recv ++ sendOrder.map .done

/-- The whole body: the handshake with both neighbours, the own block into the result, the steps. -/
def body : Prog (TpuEff nD τ sig (Elt F) Λ₀ .tc) PUnit := do
  let d ← Prog.lift .deviceId
  semSignalWord (⟨k0_dev1 d, k0_dev1_lt d⟩ : Dev nD) barS 1#32
  semSignalWord (⟨k0_dev2 d, k0_dev2_lt d⟩ : Dev nD) barS 1#32
  semWaitWord barS 2#32
  let v : Vec F S256x256 .f32 ← Prog.lift (.load xM (Rect.unit (s := S256x256) ![0, 0] S256x256.size inb_S256x256_S256x256_0_0).toLoadRect (View.loadsAt_vmem h_S256x256))
  let _ : Vec F S256x256 .f32 ← Prog.lift (.load oM (Rect.unit (s := S4096x256) (k0_off1 d) S256x256.size (k0_off1_inb d)).toLoadRect (View.loadsAt_vmem h_S256x256))
  Prog.lift (.store oM (Rect.unit (s := S4096x256) (k0_off1 d) S256x256.size (k0_off1_inb d)) (k0_pay1 v) Finset.univ (View.stores_vmem_bits_univ h_S256x256 rfl) (.inl rfl))
  run d steps

set_option maxRecDepth 65536 in
/-- The printed body is that text. -/
theorem body_eq : cc0_body (F := F) xM (Memref.isWhole_whole _) oM (Memref.isWhole_whole _) cc0_scratch0 cc0_scratch1 cc0_scratch2 cc0_scratch3 = body := by
  chain_rfl

end Cert.Ring

end
-- ==== Proof.Places.lean ====
/-
Places on the cycle: the sixteen devices in their order round it, who a transfer goes to and comes from, and whose
block it carries, with what the printed text computes for each.
-/
module

public import proofs.«01_k».proof.Proof.Text

@[expose] public section

noncomputable section

namespace Cert.Ring

open Cert.KernelIdeal Cert.KernelIdeal.Gen
open Idealize.ShloMosaic Idealize.SL.Sem

/-- The device at place `p` of the cycle (`p` modulo sixteen). -/
def node (p : ℕ) : Dev nD :=
  ⟨(4 * (if p % 16 / 4 % 2 = 0 then p % 4 else 3 - p % 4) + p % 16 / 4) % 16, Nat.mod_lt _ (by decide)⟩

/-- A device's place on the cycle. -/
def place (d : Dev nD) : ℕ := 4 * (d.val % 4) + (if d.val % 2 = 0 then d.val / 4 else 3 - d.val / 4)

/-- The next device of the cycle, and the one before. -/
def nxt (d : Dev nD) : Dev nD := node (place d + 1)
def prv (d : Dev nD) : Dev nD := node (place d + 15)

/-- The device a transfer of `d` is addressed to. -/
def peer (d : Dev nD) : Tr → Dev nD
  | .inl _ => nxt d
  | .inr _ => prv d

/-- The device whose transfer arrives at `d`. -/
def giver (d : Dev nD) : Tr → Dev nD
  | .inl _ => prv d
  | .inr _ => nxt d

/-- The device whose block `d` sends in a transfer. -/
def sentOrg (d : Dev nD) : Tr → Dev nD
  | .inl (h, _) => node (place d + 16 - h.val)
  | .inr (h, _) => node (place d + h.val)

/-- The device whose block arrives at `d` in a transfer. -/
def gotOrg (d : Dev nD) : Tr → Dev nD
  | .inl (h, _) => node (place d + 15 - h.val)
  | .inr (h, _) => node (place d + h.val + 1)

/-- The quarter a transfer carries, and its hop. -/
def sub : Tr → Fin 4
  | .inl (_, s) => s
  | .inr (_, s) => s
def hop : Tr → ℕ
  | .inl (h, _) => h.val
  | .inr (h, _) => h.val

theorem prv_nxt : ∀ d : Dev nD, prv (nxt d) = d := by decide
theorem nxt_prv : ∀ d : Dev nD, nxt (prv d) = d := by decide
theorem giver_peer (d : Dev nD) (t : Tr) : giver (peer d t) t = d := by
  rcases t with t | t
  · exact prv_nxt d
  · exact nxt_prv d
theorem peer_giver (d : Dev nD) (t : Tr) : peer (giver d t) t = d := by
  rcases t with t | t
  · exact nxt_prv d
  · exact prv_nxt d

/-- Going round once as a permutation of the devices; and a transfer's direction likewise. -/
def ring : Dev nD ≃ Dev nD := ⟨nxt, prv, prv_nxt, nxt_prv⟩
def along (t : Tr) : Dev nD ≃ Dev nD :=
  ⟨fun d => peer d t, fun d => giver d t, fun d => giver_peer d t, fun d => peer_giver d t⟩

/-- What a device sends is what arrives. -/
theorem gotOrg_peer : ∀ (d : Dev nD) (t : Tr), gotOrg (peer d t) t = sentOrg d t := by decide +kernel
/-- At hop 0 a device sends its own block. -/
theorem sentOrg_zeroR : ∀ (d : Dev nD) (s : Fin 4), sentOrg d (.inl (0, s)) = d := by decide +kernel
theorem sentOrg_zeroL : ∀ (d : Dev nD) (s : Fin 4), sentOrg d (.inr (0, s)) = d := by decide +kernel
/-- At a later hop it sends what arrived one hop earlier. -/
theorem sentOrg_succR : ∀ (d : Dev nD) (h : Fin 7) (s : Fin 4), sentOrg d (.inl (h.succ, s)) = gotOrg d (.inl (h.castSucc, s)) := by decide +kernel
theorem sentOrg_succL : ∀ (d : Dev nD) (h : Fin 6) (s : Fin 4), sentOrg d (.inr (h.succ, s)) = gotOrg d (.inr (h.castSucc, s)) := by decide +kernel

/-- The signals go to the device before, then to the next. -/
theorem dev1_eq : ∀ d : Dev nD, (⟨k0_dev1 d, k0_dev1_lt d⟩ : Dev nD) = prv d := by decide +kernel
theorem dev2_eq : ∀ d : Dev nD, (⟨k0_dev2 d, k0_dev2_lt d⟩ : Dev nD) = nxt d := by decide +kernel
/-- Every transfer is addressed to its direction's neighbour. -/
theorem target_eq : ∀ (d : Dev nD) (t : Tr), target d t = peer d t := by decide +kernel

/-- The first row of a device's block's quarter in the result. -/
def row (o : Dev nD) (s : Fin 4) : ℕ := 256 * o.val + 64 * s.val

theorem off2_eq : ∀ (d : Dev nD) (h : Fin 8) (s : Fin 4),
    k0_off2 d (BitVec.ofNat 32 h.val) (BitVec.ofNat 32 (64 * s.val)) = ![row (sentOrg d (.inl (h, s))) s, 0] := by decide +kernel
theorem off3_eq : ∀ (d : Dev nD) (h : Fin 7) (s : Fin 4),
    k0_off3 d (BitVec.ofNat 32 h.val) (BitVec.ofNat 32 (64 * s.val)) = ![row (sentOrg d (.inr (h, s))) s, 0] := by decide +kernel
theorem off4_eq : ∀ (d : Dev nD) (h : Fin 8) (s : Fin 4),
    k0_off4 d (BitVec.ofNat 32 h.val) (BitVec.ofNat 32 (64 * s.val)) = ![row (gotOrg d (.inl (h, s))) s, 0] := by decide +kernel
theorem off5_eq : ∀ (d : Dev nD) (h : Fin 7) (s : Fin 4),
    k0_off5 d (BitVec.ofNat 32 h.val) (BitVec.ofNat 32 (64 * s.val)) = ![row (gotOrg d (.inr (h, s))) s, 0] := by decide +kernel

/-- The quarters of the result, as the own block's four and the sixty that arrive. -/
def quarterOf (d : Dev nD) : Fin 4 ⊕ Tr → Dev nD × Fin 4
  | .inl s => (d, s)
  | .inr t => (gotOrg d t, sub t)

/-- Each quarter of the result is the own block's or arrives exactly once. -/
theorem quarterOf_bijective : ∀ d : Dev nD, Function.Bijective (quarterOf d) := by
  have hi : ∀ d : Dev nD, Function.Injective (quarterOf d) := by
    unfold Function.Injective; decide +kernel
  exact fun d => (Fintype.bijective_iff_injective_and_card _).mpr ⟨hi d, by decide⟩

end Cert.Ring

end
-- ==== Proof.Contents.lean ====
/-
What the buffers hold. The result is cut into sixty-four quarters of sixty-four rows, a quarter named by the device
whose block it belongs to and its number within it. `gath xs` is the result every device ends with: the rows of device
`o`'s block are `xs o`. Each copy the kernel makes — of the own block, of a quarter of the argument, of a quarter that
has arrived — writes `gath xs` where it writes.
-/
module

public import proofs.«01_k».proof.Proof.Places
public import Idealize.ShloMosaic.Lib.Pipeline.ValueKit.Geometry

@[expose] public section

noncomputable section

namespace Cert.Ring

open Cert.KernelIdeal Cert.KernelIdeal.Gen
open Idealize.ShloMosaic Idealize.SL.Sem

variable {F : FTy → Type} [FloatOps F]

theorem row_inb (o : Dev nD) (s : Fin 4) : ∀ a, (![row o s, 0] : Fin 2 → Nat) a + S64x256.size a ≤ S4096x256.size a := by
  revert o s; decide +kernel

/-- Quarter `s` of device `o`'s block in the result, as the program slices it. -/
def rowsM (o : Dev nD) (s : Fin 4) : Memref sig .tc .vmem S64x256 .f32 :=
  oM.slice (Rect.unit (s := S4096x256) ![row o s, 0] S64x256.size (row_inb o s)) (fun _ => rfl)

theorem slice_congr {off off' : Fin 2 → Nat} (h : off = off') (i : ∀ a, off a + S64x256.size a ≤ S4096x256.size a)
    (i' : ∀ a, off' a + S64x256.size a ≤ S4096x256.size a) :
    (oM.slice (Rect.unit (s := S4096x256) off S64x256.size i) (fun _ => rfl) : Memref sig .tc .vmem S64x256 .f32)
      = oM.slice (Rect.unit (s := S4096x256) off' S64x256.size i') (fun _ => rfl) := by
  subst h; rfl

/-- What a transfer sends is a quarter of the result, and so is where it arrives. -/
theorem sentM_eq (d : Dev nD) (t : Tr) : sentM d t = rowsM (sentOrg d t) (sub t) := by
  rcases t with ⟨h, s⟩ | ⟨h, s⟩
  · exact slice_congr (off2_eq d h s) _ _
  · exact slice_congr (off3_eq d h s) _ _
theorem gotM_eq (d : Dev nD) (t : Tr) : gotM d t = rowsM (gotOrg d t) (sub t) := by
  rcases t with ⟨h, s⟩ | ⟨h, s⟩
  · exact slice_congr (off4_eq d h s) _ _
  · exact slice_congr (off5_eq d h s) _ _

/-! ## Where a row of the result lies -/

theorem i0_lt (i : S4096x256.Idx) : (i 0).val < 4096 := (i 0).isLt
theorem i1_lt (i : S4096x256.Idx) : (i 1).val < 256 := (i 1).isLt

/-- The quarter an index of the result lies in, and its place within the block. -/
def quarterAt (i : S4096x256.Idx) : Dev nD × Fin 4 :=
  (⟨(i 0).val / 256, Nat.div_lt_of_lt_mul (i0_lt i)⟩, ⟨(i 0).val % 256 / 64, Nat.div_lt_of_lt_mul (Nat.mod_lt _ (by decide))⟩)
def inBlock (i : S4096x256.Idx) : S256x256.Idx := Fin.cons ⟨(i 0).val % 256, Nat.mod_lt _ (by decide)⟩ (Fin.cons (i 1) finZeroElim)

/-- The indices of a quarter of the result, and of a quarter of a block. -/
def tile (p : Dev nD × Fin 4) : Finset S4096x256.Idx := (Rect.unit (s := S4096x256) ![row p.1 p.2, 0] S64x256.size (row_inb p.1 p.2)).set
def xtile (s : Fin 4) : Finset S256x256.Idx := (Rect.unit (s := S256x256) ![64 * s.val, 0] S64x256.size (inbX s)).set

theorem rowsM_set (o : Dev nD) (s : Fin 4) : (rowsM o s).view.set = tile (o, s) := View.set_slice_whole cc0_stg1_0 _
theorem quarterM_set (s : Fin 4) : (quarterM s).view.set = xtile s := View.set_slice_whole cc0_stg0_0 _

theorem mem_tile {i : S4096x256.Idx} {p : Dev nD × Fin 4} : i ∈ tile p ↔ quarterAt i = p := by
  obtain ⟨o, s⟩ := p
  unfold tile quarterAt
  rw [Rect.mem_set_unit, Fin.forall_fin_two, Prod.mk.injEq, Fin.ext_iff, Fin.ext_iff]
  have h0 := i0_lt i; have h1 := i1_lt i; have ho := o.isLt; have hs := s.isLt
  show (row o s ≤ (i 0).val ∧ (i 0).val < row o s + 64) ∧ (0 ≤ (i 1).val ∧ (i 1).val < 0 + 256) ↔ (i 0).val / 256 = o.val ∧ (i 0).val % 256 / 64 = s.val
  unfold row
  omega

theorem mem_xtile {i : S256x256.Idx} {s : Fin 4} : i ∈ xtile s ↔ (i 0).val / 64 = s.val := by
  unfold xtile
  rw [Rect.mem_set_unit, Fin.forall_fin_two]
  have h1 : (i 1).val < 256 := (i 1).isLt
  show (64 * s.val ≤ (i 0).val ∧ (i 0).val < 64 * s.val + 64) ∧ (0 ≤ (i 1).val ∧ (i 1).val < 0 + 256) ↔ _
  omega

/-- Different quarters have no index in common, and together they are everything. -/
theorem tile_disjoint {p q : Dev nD × Fin 4} (h : p ≠ q) : Disjoint (tile p) (tile q) :=
  Finset.disjoint_left.mpr fun _ hp hq => h ((mem_tile.mp hp).symm.trans (mem_tile.mp hq))
theorem xtile_disjoint {s t : Fin 4} (h : s ≠ t) : Disjoint (xtile s) (xtile t) :=
  Finset.disjoint_left.mpr fun _ hp hq => h (Fin.ext ((mem_xtile.mp hp).symm.trans (mem_xtile.mp hq)))
theorem tile_cover (d : Dev nD) : Finset.univ.biUnion (fun x => tile (quarterOf d x)) = Finset.univ := by
  ext i
  simp only [Finset.mem_biUnion, Finset.mem_univ, true_and, iff_true]
  obtain ⟨x, hx⟩ := (quarterOf_bijective d).2 (quarterAt i)
  exact ⟨x, mem_tile.mpr hx.symm⟩
theorem xtile_cover : Finset.univ.biUnion xtile = Finset.univ := by
  ext i
  simp only [Finset.mem_biUnion, Finset.mem_univ, true_and, iff_true]
  have h0 : (i 0).val < 256 := (i 0).isLt
  exact ⟨⟨(i 0).val / 64, by omega⟩, mem_xtile.mpr rfl⟩

/-- The own block's indices are its four quarters'. -/
abbrev ownRect (d : Dev nD) : Rect S4096x256 := Rect.unit (s := S4096x256) (k0_off1 d) S256x256.size (k0_off1_inb d)

theorem mem_own {d : Dev nD} {i : S4096x256.Idx} : i ∈ (ownRect d).set ↔ (quarterAt i).1 = d := by
  unfold ownRect quarterAt
  rw [Rect.mem_set_unit, Fin.forall_fin_two, Fin.ext_iff, k0_off1_eq]
  have h0 := i0_lt i; have h1 := i1_lt i; have ho := d.isLt
  show (256 * d.val ≤ (i 0).val ∧ (i 0).val < 256 * d.val + 256) ∧ (0 ≤ (i 1).val ∧ (i 1).val < 0 + 256) ↔ (i 0).val / 256 = d.val
  omega

theorem own_cover (d : Dev nD) : Finset.univ.biUnion (fun s : Fin 4 => tile (d, s)) = (ownRect d).set := by
  ext i
  simp only [Finset.mem_biUnion, Finset.mem_univ, true_and, mem_tile, mem_own]
  constructor
  · rintro ⟨s, hs⟩; rw [hs]
  · intro h; exact ⟨(quarterAt i).2, Prod.ext h rfl⟩

/-! ## Contents -/

/-- A device's block of the argument, and the result, as buffers hold them. -/
abbrev XC (F : FTy → Type) : Type := (cc0_stg0_0 : Ref sig .tc).ty.Contents (Elt F)
abbrev OC (F : FTy → Type) : Type := (cc0_stg1_0 : Ref sig .tc).ty.Contents (Elt F)

/-- The gathered result: row `r` is row `r % 256` of device `r / 256`'s block. -/
def gath (xs : Dev nD → XC F) : OC F := fun i => xs (quarterAt i).1 (inBlock i)

/-- Writing what a quarter of the argument reads writes the gathered result there. -/
theorem write_quarter (xs : Dev nD → XC F) (d : Dev nD) (s : Fin 4) (f : OC F) :
    ∀ i ∈ tile (d, s), (rowsM d s).view.write (Elt F) f ((quarterM s).view.read (Elt F) (xs d)) Finset.univ i = gath xs i := by
  intro i hi
  rw [← rowsM_set] at hi
  obtain ⟨x, -, rfl⟩ := Finset.mem_map.mp hi
  refine (View.write_emb_of_mem (v := (rowsM d s).view) (Val := Elt F) f _ (Finset.mem_univ x)).trans ?_
  have hd := d.isLt; have hs := s.isLt
  have h0 : (x 0).val < 64 := (x 0).isLt
  have h1 : (x 1).val < 256 := (x 1).isLt
  obtain ⟨i, hi, e0, e1⟩ : ∃ i : S4096x256.Idx, i = (rowsM d s).view.emb x ∧ (i 0).val = row d s + (x 0).val ∧ (i 1).val = 0 + (x 1).val :=
    ⟨_, rfl, ValueKit.rect_emb_unit_val (s := S4096x256) ![row d s, 0] _ (row_inb d s) x 0, ValueKit.rect_emb_unit_val (s := S4096x256) ![row d s, 0] _ (row_inb d s) x 1⟩
  obtain ⟨j, hj, f0, f1⟩ : ∃ j : S256x256.Idx, j = (quarterM s).view.emb x ∧ (j 0).val = 64 * s.val + (x 0).val ∧ (j 1).val = 0 + (x 1).val :=
    ⟨_, rfl, ValueKit.rect_emb_unit_val (s := S256x256) ![64 * s.val, 0] _ (inbX s) x 0, ValueKit.rect_emb_unit_val (s := S256x256) ![64 * s.val, 0] _ (inbX s) x 1⟩
  unfold row at e0
  have hq : (quarterAt i).1 = d := Fin.ext (by show (i 0).val / 256 = d.val; omega)
  have hb : inBlock i = j := funext fun a => Fin.ext (by
    revert a; rw [Fin.forall_fin_two]
    exact ⟨by show (i 0).val % 256 = _; omega, by show (i 1).val = _; omega⟩)
  refine Eq.trans ?_ (congrArg (gath xs) hi)
  unfold gath
  rw [hq, hb, hj]
  rfl

/-- Writing what a quarter of the gathered result reads writes it again. -/
theorem write_rows (xs : Dev nD → XC F) (o : Dev nD) (s : Fin 4) (f : OC F) :
    ∀ i ∈ tile (o, s), (rowsM o s).view.write (Elt F) f ((rowsM o s).view.read (Elt F) (gath xs)) Finset.univ i = gath xs i := by
  intro i hi
  rw [← rowsM_set] at hi
  exact (congrFun (View.write_read_eq_piecewise (v := (rowsM o s).view) (Val := Elt F) f (gath xs) Finset.univ) i).trans
    (Finset.piecewise_eq_of_mem _ _ _ hi)

/-- Storing the block writes the gathered result on the own block's rows. -/
theorem write_own (xs : Dev nD → XC F) (d : Dev nD) (f : OC F) :
    ∀ i ∈ (ownRect d).set, (oM.access (ownRect d) : View sig .tc _ _ _).write (Elt F) f (k0_pay1 (xs d)) Finset.univ i = gath xs i := by
  intro i hi
  rw [show (ownRect d).set = (oM.access (ownRect d) : View sig .tc _ _ _).set from (View.set_slice_whole cc0_stg1_0 _).symm] at hi
  obtain ⟨x, -, rfl⟩ := Finset.mem_map.mp hi
  refine (View.write_emb_of_mem (v := oM.access (ownRect d)) (Val := Elt F) f _ (Finset.mem_univ x)).trans ?_
  have hd := d.isLt
  have h0 : (x 0).val < 256 := (x 0).isLt
  have h1 : (x 1).val < 256 := (x 1).isLt
  obtain ⟨i, hi, e0, e1⟩ : ∃ i : S4096x256.Idx, i = (oM.access (ownRect d)).emb x ∧ (i 0).val = k0_off1 d 0 + (x 0).val ∧ (i 1).val = k0_off1 d 1 + (x 1).val :=
    ⟨_, rfl, ValueKit.rect_emb_unit_val (s := S4096x256) (k0_off1 d) _ (k0_off1_inb d) x 0, ValueKit.rect_emb_unit_val (s := S4096x256) (k0_off1 d) _ (k0_off1_inb d) x 1⟩
  rw [k0_off1_eq] at e0 e1
  change _ = 256 * d.val + _ at e0
  change _ = 0 + _ at e1
  have hq : (quarterAt i).1 = d := Fin.ext (by show (i 0).val / 256 = d.val; omega)
  have hb : inBlock i = x := funext fun a => Fin.ext (by
    revert a; rw [Fin.forall_fin_two]
    exact ⟨by show (i 0).val % 256 = _; omega, by show (i 1).val = _; omega⟩)
  refine Eq.trans ?_ (congrArg (gath xs) hi)
  unfold gath k0_pay1
  rw [hq, hb, shapeCast_self]
  rfl

end Cert.Ring

end
-- ==== Proof.Sched.lean ====
/-
The protocol. Every device has a barrier cell, a departure cell and an arrival cell for each of its sixty transfers.
A signal on a neighbour's barrier cell hands that neighbour the quarters of the signaller's result it will write; an
arrival hands its receiver the quarter that arrived, holding the gathered result; a departure gives its sender back what
it read. Each cell has one round.
-/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's resources beside the staging's: rounds with two duty names. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A device's cells: the barrier's, its departures', its arrivals'. -/
abbrev Cl : Type := Unit ⊕ (Tr ⊕ Tr)

instance : Fintype Cl := inferInstance
instance : DecidableEq Cl := inferInstance

def csem : Cl → SemLoc sig
  | .inl _ => .reg barS
  | .inr (.inl t) => .dma (sendS t)
  | .inr (.inr t) => .dma (recvS t)

theorem csem_injective : Function.Injective csem := by
  have h : ∀ a b : Cl, csem a = csem b → a = b := by decide +kernel
  exact fun a b => h a b

/-- Which of a device's cells a semaphore is. -/
def clOf : SemLoc sig → Option Cl := Function.partialInv csem
theorem clOf_csem (k : Cl) : clOf (csem k) = some k := Function.partialInv_left csem_injective k

abbrev kcell (x : Dev nD × Cl) : GSem nD τ sig := ((x.1 : Thread nD τ), csem x.2)
abbrev barCell (c : Dev nD) : GSem nD τ sig := ((c : Thread nD τ), .reg barS)
abbrev sendCell (c : Dev nD) (t : Tr) : GSem nD τ sig := ((c : Thread nD τ), .dma (sendS t))
abbrev recvCell (c : Dev nD) (t : Tr) : GSem nD τ sig := ((c : Thread nD τ), .dma (recvS t))

theorem clOf_bar : clOf (.reg barS) = some (.inl ()) := clOf_csem (.inl ())
theorem clOf_send (t : Tr) : clOf (.dma (sendS t)) = some (.inr (.inl t)) := clOf_csem (.inr (.inl t))
theorem clOf_recv (t : Tr) : clOf (.dma (recvS t)) = some (.inr (.inr t)) := clOf_csem (.inr (.inr t))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The credit one transfer brings: every transfer carries sixty-four rows. -/
def N : ℕ := (rowsM 0 0).view.dmaCredit
theorem N_pos : 0 < N := by unfold N; exact View.dmaCredit_pos _ (by decide)

/-! ## What is handed over -/

/-- A quarter of the result on device `c`, and one at no particular contents. -/
def slot (c : Dev nD) (p : Dev nD × Fin 4) (f : OC F) : sProp 𝕄 :=
  ((c : Thread nD τ).loc cc0_stg1_0) ↦[tile p]{fullShare} f
def free (c : Dev nD) (p : Dev nD × Fin 4) : sProp 𝕄 := iprop(∃ f, slot (F := F) c p f)

/-- A share of a quarter of the staged block. -/
def xslot (xs : Dev nD → XC F) (c : Dev nD) (s : Fin 4) (q : PosShare TreeShare) : sProp 𝕄 :=
  ((c : Thread nD τ).loc cc0_stg0_0) ↦[xtile s]{q} xs c

/-- The share of the staged block a direction reads it at. -/
def half (b : Bool) : PosShare TreeShare := if b then fullShare.left else fullShare.right

/-- What a device can send: what a transfer brought, or a quarter of the staged block at a direction's share. -/
abbrev Pc : Type := Tr ⊕ (Bool × Fin 4)

/-- What a transfer sends. -/
def src : Tr → Pc
  | .inl (⟨0, _⟩, s) => .inr (true, s)
  | .inl (⟨h + 1, p⟩, s) => .inl (.inl (⟨h, Nat.lt_of_succ_lt p⟩, s))
  | .inr (⟨0, _⟩, s) => .inr (false, s)
  | .inr (⟨h + 1, p⟩, s) => .inl (.inr (⟨h, Nat.lt_of_succ_lt p⟩, s))

def piece (xs : Dev nD → XC F) (c : Dev nD) : Pc → sProp 𝕄
  | .inl t => slot c (gotOrg c t, sub t) (gath xs)
  | .inr (b, s) => xslot xs c s (half b)

/-- The transfers of one direction: `true` to the next device, `false` to the one before. -/
def dirTr (b : Bool) : Finset Tr := Finset.univ.filter fun t => t.isLeft = b

/-- What a neighbour's signal hands device `c`: the quarters of its result that `c`'s transfers to it will write. -/
def barPay (c : Dev nD) (b : Bool) : sProp 𝕄 := bigSep (dirTr b) fun t => free (F := F) (peer c t) (sentOrg c t, sub t)

instance slot_storable (c : Dev nD) (p : Dev nD × Fin 4) (f : OC F) : BI.Storable (upEmb : UEmb _ 𝕄) (slot c p f) := by unfold slot; infer_instance
instance free_storable (c : Dev nD) (p : Dev nD × Fin 4) : BI.Storable (upEmb : UEmb _ 𝕄) (free (F := F) c p) := by unfold free; infer_instance
instance piece_storable (xs : Dev nD → XC F) (c : Dev nD) (x : Pc) : BI.Storable (upEmb : UEmb _ 𝕄) (piece xs c x) := by
  rcases x with t | ⟨b, s⟩
  · show BI.Storable upEmb (slot c _ _); infer_instance
  · show BI.Storable upEmb (xslot xs c s (half b)); unfold xslot; infer_instance
instance barPay_storable (c : Dev nD) (b : Bool) : BI.Storable (upEmb : UEmb _ 𝕄) (barPay (F := F) c b) := by unfold barPay; infer_instance

/-! ## The schedule -/

def dutiesOf : Option Cl → Finset Bool
  | some (.inl _) => Finset.univ
  | some (.inr _) => {false}
  | none => ∅
def amountOf : Option Cl → ℕ
  | some (.inr _) => N
  | _ => 1
def payOf (xs : Dev nD → XC F) (c : Dev nD) (b : Bool) : Option Cl → sProp 𝕄
  | some (.inl _) => barPay c b
  | some (.inr (.inl t)) => piece xs c (src t)
  | some (.inr (.inr t)) => piece xs c (.inl t)
  | none => iprop(emp)

/-- One round: a barrier cell has a duty for each neighbour, of one unit; a departure or arrival cell one duty of the
    transfer's credit. -/
def Rd (xs : Dev nD → XC F) : Rounds.Schedule (GSem nD τ sig) Bool 𝕄 where
  duties g r := if r = 0 ∧ g.1.2 = .tc then dutiesOf (clOf g.2) else ∅
  unitless _ := False
  amount g _ _ := amountOf (clOf g.2)
  payload g _ d := payOf xs g.1.1 d (clOf g.2)
  amount_pos g _ _ _ := by
    rcases clOf g.2 with _ | _ | _
    · exact Nat.one_pos
    · exact Nat.one_pos
    · exact N_pos

variable (xs : Dev nD → XC F)

instance payload_storable (g : GSem nD τ sig) (r : ℕ) (d : Bool) : BI.Storable (upEmb : UEmb _ 𝕄) ((Rd xs).payload g r d) := by
  show BI.Storable upEmb (payOf xs g.1.1 d (clOf g.2))
  rcases clOf g.2 with _ | (_ | (_ | _))
  · show BI.Storable upEmb iprop(emp); infer_instance
  · show BI.Storable upEmb (barPay _ _); infer_instance
  · exact piece_storable xs g.1.1 (src _)
  · exact piece_storable xs g.1.1 (.inl _)

theorem duties_bar (c : Dev nD) : (Rd xs).duties (barCell c) 0 = Finset.univ := by
  dsimp only [Rd]; rw [if_pos ⟨rfl, rfl⟩, clOf_bar]; rfl
theorem duties_send (c : Dev nD) (t : Tr) : (Rd xs).duties (sendCell c t) 0 = {false} := by
  dsimp only [Rd]; rw [if_pos ⟨rfl, rfl⟩, clOf_send]; rfl
theorem duties_recv (c : Dev nD) (t : Tr) : (Rd xs).duties (recvCell c t) 0 = {false} := by
  dsimp only [Rd]; rw [if_pos ⟨rfl, rfl⟩, clOf_recv]; rfl
theorem duties_later (g : GSem nD τ sig) : ∀ r, 1 ≤ r → (Rd xs).duties g r = ∅ :=
  fun r hr => if_neg fun h => by omega

theorem amount_bar (c : Dev nD) (d : Bool) : (Rd xs).amount (barCell c) 0 d = 1 := by
  show amountOf (clOf (.reg barS)) = 1; rw [clOf_bar]; rfl
theorem amount_send (c : Dev nD) (t : Tr) (d : Bool) : (Rd xs).amount (sendCell c t) 0 d = N := by
  show amountOf (clOf (.dma (sendS t))) = N; rw [clOf_send]; rfl
theorem amount_recv (c : Dev nD) (t : Tr) (d : Bool) : (Rd xs).amount (recvCell c t) 0 d = N := by
  show amountOf (clOf (.dma (recvS t))) = N; rw [clOf_recv]; rfl

theorem expect_bar (c : Dev nD) : (Rd xs).expect (barCell c) 0 = 2 := by
  unfold Schedule.expect Schedule.amountOf
  rw [duties_bar, Finset.sum_congr rfl fun d _ => amount_bar xs c d, Finset.sum_const, Finset.card_univ, Fintype.card_bool, smul_eq_mul]
theorem expect_send (c : Dev nD) (t : Tr) : (Rd xs).expect (sendCell c t) 0 = N := by
  unfold Schedule.expect Schedule.amountOf; rw [duties_send, Finset.sum_singleton, amount_send]
theorem expect_recv (c : Dev nD) (t : Tr) : (Rd xs).expect (recvCell c t) 0 = N := by
  unfold Schedule.expect Schedule.amountOf; rw [duties_recv, Finset.sum_singleton, amount_recv]

theorem payload_bar (c : Dev nD) (b : Bool) : (Rd xs).payload (barCell c) 0 b = barPay c b := by
  show payOf xs c b (clOf (.reg barS)) = _; rw [clOf_bar]; rfl
theorem payload_send (c : Dev nD) (t : Tr) (b : Bool) : (Rd xs).payload (sendCell c t) 0 b = piece xs c (src t) := by
  show payOf xs c b (clOf (.dma (sendS t))) = _; rw [clOf_send]; rfl
theorem payload_recv (c : Dev nD) (t : Tr) (b : Bool) : (Rd xs).payload (recvCell c t) 0 b = piece xs c (.inl t) := by
  show payOf xs c b (clOf (.dma (recvS t))) = _; rw [clOf_recv]; rfl

theorem rest_bar (c : Dev nD) : bigSep ((Rd xs).duties (barCell c) 0 \ ∅) (fun d => (Rd xs).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send (c : Dev nD) (t : Tr) : bigSep ((Rd xs).duties (sendCell c t) 0 \ ∅) (fun d => (Rd xs).payload (sendCell c t) 0 d)
    = piece xs c (src t) := by
  rw [Finset.sdiff_empty, duties_send, bigSep_singleton, payload_send]
theorem rest_recv (c : Dev nD) (t : Tr) : bigSep ((Rd xs).duties (recvCell c t) 0 \ ∅) (fun d => (Rd xs).payload (recvCell c t) 0 d)
    = piece xs c (.inl t) := by
  rw [Finset.sdiff_empty, duties_recv, bigSep_singleton, payload_recv]

/-! ## What is owed, and the levels -/

/-- The arrivals a device still owes its neighbours when it has yet to start the transfers `A`. -/
def OT (c : Dev nD) (A : Finset Tr) : CellTallies nD τ sig Unit := ∑ t ∈ A, tallyAt (recvCell (peer c t) t) () N
/-- What it owes after its first signal, and at launch. -/
def O₁ (c : Dev nD) : CellTallies nD τ sig Unit := OT c Finset.univ + tallyAt (barCell (nxt c)) () 1
def O₀ (c : Dev nD) : CellTallies nD τ sig Unit := O₁ c + tallyAt (barCell (prv c)) () 1

/-- A barrier cell is waited on below every arrival, an arrival below those of later hops. -/
def lvOf : Option Cl → ℕ
  | some (.inl _) => 1
  | some (.inr (.inr t)) => 2 + hop t
  | _ => 0
def L (g : GSem nD τ sig) : Finset Unit := if g.1.2 = .tc then {()} else ∅
def lv (g : GSem nD τ sig) (_ : Unit) : ℕ := lvOf (clOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [clOf_bar]; rfl
theorem lv_send (c : Dev nD) (t : Tr) (u : Unit) : lv (sendCell c t) u = 0 := by unfold lv; rw [clOf_send]; rfl
theorem lv_recv (c : Dev nD) (t : Tr) (u : Unit) : lv (recvCell c t) u = 2 + hop t := by unfold lv; rw [clOf_recv]; rfl

theorem OT_apply (c : Dev nD) (A : Finset Tr) (g : GSem nD τ sig) (u : Unit) :
    OT c A g u = ∑ t ∈ A, (tallyAt (recvCell (peer c t) t) () N : CellTallies nD τ sig Unit) g u := by
  unfold OT; rw [Finset.sum_apply, Finsupp.finset_sum_apply]

/-- Something owed is an arrival of a transfer yet to start. -/
theorem OT_pos {c : Dev nD} {A : Finset Tr} {g : GSem nD τ sig} {u : Unit} (h : 0 < OT c A g u) :
    ∃ t ∈ A, g = recvCell (peer c t) t := by
  rw [OT_apply] at h
  obtain ⟨t, ht, hp⟩ := Finset.exists_ne_zero_of_sum_ne_zero (Nat.pos_iff_ne_zero.mp h)
  rw [tallyAt_apply] at hp
  by_contra hn
  exact hp (if_neg fun h' => hn ⟨t, ht, h'.1⟩)

theorem O₀_apply (c : Dev nD) (g : GSem nD τ sig) (u : Unit) : O₀ c g u = OT c Finset.univ g u
    + (tallyAt (barCell (nxt c)) () 1 : CellTallies nD τ sig Unit) g u + (tallyAt (barCell (prv c)) () 1 : CellTallies nD τ sig Unit) g u := by
  unfold O₀ O₁; rw [Pi.add_apply, Finsupp.add_apply, Pi.add_apply, Finsupp.add_apply]

theorem tallyAt_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem O₀_pos {c : Dev nD} {g : GSem nD τ sig} {u : Unit} (h : 0 < O₀ c g u) :
    (∃ t, g = recvCell (peer c t) t) ∨ g = barCell (nxt c) ∨ g = barCell (prv c) := by
  rw [O₀_apply] at h
  rcases Nat.add_pos_iff_pos_or_pos.mp h with h | h
  · rcases Nat.add_pos_iff_pos_or_pos.mp h with h | h
    · obtain ⟨t, -, ht⟩ := OT_pos h
      exact .inl ⟨t, ht⟩
    · exact .inr (.inl (tallyAt_pos h))
  · exact .inr (.inr (tallyAt_pos h))

/-- A wait below every arrival still owed is allowed. -/
theorem mayWait_OT (c : Dev nD) (A : Finset Tr) (sm : SemLoc sig) (h : ∀ t ∈ A, lvOf (clOf sm) < 2 + hop t) :
    (levAts L lv : sProp 𝕄) ⊢ MayWait (c : Thread nD τ) sm () (OT c A) :=
  MayOwe.of_cut (L := L) (lev := lv) (lvOf (clOf sm)) (fun p hp => by rw [Finset.mem_singleton.mp hp, L_tc]; exact Finset.mem_singleton_self _)
    (fun g u hg => by obtain ⟨t, -, rfl⟩ := OT_pos hg; exact Finset.mem_singleton_self _)
    (fun p hp => by rw [Finset.mem_singleton.mp hp]; exact le_refl _)
    (fun g u hg => by obtain ⟨t, ht, rfl⟩ := OT_pos hg; rw [lv_recv]; exact h t ht)

/-- The staging's waits are allowed: they are below everything owed. -/
theorem mayWait_stage (c : Dev nD) (q : DmaSem sig) (hq : clOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | rfl | rfl <;> exact Finset.mem_singleton_self _)
      (fun p hp => by rw [Finset.mem_singleton.mp hp]; show lvOf (clOf (.dma q)) ≤ 0; rw [hq]; exact le_refl _)
      (fun g u hg => by
        rcases O₀_pos hg with ⟨t, rfl⟩ | rfl | rfl
        · rw [lv_recv]; omega
        · rw [lv_bar]; decide
        · rw [lv_bar]; decide)
  · rw [MayWait_zero]; iintro -; iempintro

end Cert.Ring

end
-- ==== Proof.Steps.lean ====
/-
One step of the body. A device's progress is five sets of transfers — those still to start, those started, those whose
departure it has waited for, those still to arrive, those that have arrived — and the set of pieces it holds. Each step
moves one transfer from one set to another and changes what is held; a step is in order when what it moves is there and,
for the wait on an arrival, when only transfers of later hops are still to start.
-/
module

public import proofs.«01_k».proof.Proof.Sched

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (xs : Dev nD → XC F) (K : Dev nD × Cl → ℕ)

/-! ## The shared record of the cells -/

/-- Every cell's invariant, and that every cell has reached its round. -/
def records : sProp 𝕄 :=
  iprop((bigSep Finset.univ fun x : Dev nD × Cl => cellInv ER (Rd xs) (K x) (kcell x))
    ∗ bigSep Finset.univ fun x : Dev nD × Cl => reached ER (kcell x) 0)
instance records_persistent : BI.Persistent (records xs K) := by unfold records; infer_instance

theorem inv_at (x : Dev nD × Cl) : records xs K ⊢ cellInv ER (Rd xs) (K x) (kcell x) := by
  unfold records
  iintro ⟨H, -⟩
  iapply (show (bigSep Finset.univ fun x : Dev nD × Cl => (cellInv ER (Rd xs) (K x) (kcell x) : sProp 𝕄)) ⊢ cellInv ER (Rd xs) (K x) (kcell x) from
    bigSep_elim (Finset.mem_univ x))
  iexact H
theorem reached_at (x : Dev nD × Cl) : records xs K ⊢ reached ER (kcell x) 0 := by
  unfold records
  iintro ⟨-, H⟩
  iapply (show (bigSep Finset.univ fun x : Dev nD × Cl => (reached ER (kcell x) 0 : sProp 𝕄)) ⊢ reached ER (kcell x) 0 from
    bigSep_elim (Finset.mem_univ x))
  iexact H

/-! ## A transfer's source and destination -/

theorem slot_rows (c : Dev nD) (o : Dev nD) (s : Fin 4) (f : OC F) :
    (slot c (o, s) f : sProp 𝕄) = ((rowsM o s).view.loc (c : Thread nD τ) ↦[(rowsM o s).view.set]{fullShare} f) := by
  unfold slot; rw [← rowsM_set]; rfl

/-- Reading through `M` sends what transfer `t` of device `c` sends: its piece is there, and what is read writes the gathered result. -/
def Sends (c : Dev nD) (t : Tr) (M : Memref sig .tc .vmem S64x256 .f32) : Prop :=
  ∃ (q : PosShare TreeShare) (fs : Buf (Elt F) (M.view.loc (c : Thread nD τ))),
    (piece xs c (src t) : sProp 𝕄) = (M.view.loc (c : Thread nD τ) ↦[M.view.set]{q} fs)
    ∧ ∀ f : OC F, ∀ i ∈ tile (sentOrg c t, sub t),
        (rowsM (sentOrg c t) (sub t)).view.write (Elt F) f (M.view.read (Elt F) fs) Finset.univ i = gath xs i

/-- A copy through `M` and `D` is transfer `t` of device `c`: it reads the piece sent, and writes the piece that arrives. -/
def Moves (c : Dev nD) (t : Tr) (M D : Memref sig .tc .vmem S64x256 .f32) : Prop :=
  ∃ (q : PosShare TreeShare) (fs : Buf (Elt F) (M.view.loc (c : Thread nD τ))),
    (piece xs c (src t) : sProp 𝕄) = (M.view.loc (c : Thread nD τ) ↦[M.view.set]{q} fs)
    ∧ ∀ f : OC F, ∃ fd : Buf (Elt F) (D.view.loc (peer c t : Thread nD τ)),
        (slot (peer c t) (sentOrg c t, sub t) f : sProp 𝕄) = (D.view.loc (peer c t : Thread nD τ) ↦[D.view.set]{fullShare} fd)
        ∧ ((D.view.loc (peer c t : Thread nD τ) ↦[D.view.set]{fullShare} (D.view.write (Elt F) fd (M.view.read (Elt F) fs) Finset.univ) : sProp 𝕄)
          ⊢ piece xs (peer c t) (.inl t))

theorem sends_quarter (c : Dev nD) (t : Tr) (b : Bool) (h : src t = .inr (b, sub t)) (ho : sentOrg c t = c) :
    Sends xs c t (quarterM (sub t)) := by
  refine ⟨half b, xs c, ?_, fun f i hi => ?_⟩
  · rw [h]
    show xslot xs c (sub t) (half b) = _
    unfold xslot; rw [← quarterM_set]; rfl
  · rw [ho] at hi ⊢
    exact write_quarter xs c (sub t) f i hi

theorem sends_rows (c : Dev nD) (t u : Tr) (h : src t = .inl u) (ho : sentOrg c t = gotOrg c u) (hs : sub t = sub u) :
    Sends xs c t (sentM c t) := by
  rw [sentM_eq]
  refine ⟨fullShare, gath xs, ?_, fun f i hi => write_rows xs _ _ f i hi⟩
  rw [h]
  show slot c (gotOrg c u, sub u) (gath xs) = _
  rw [← ho, ← hs]
  exact slot_rows c _ _ _

/-- Every transfer reads its piece. -/
theorem sends_from (c : Dev nD) (t : Tr) : Sends xs c t (fromM c t) := by
  rcases t with ⟨⟨_ | h, p⟩, s⟩ | ⟨⟨_ | h, p⟩, s⟩
  · exact sends_quarter xs c (.inl (⟨0, p⟩, s)) true rfl (sentOrg_zeroR c s)
  · exact sends_rows xs c (.inl (⟨h + 1, p⟩, s)) (.inl (⟨h, Nat.lt_of_succ_lt p⟩, s)) rfl (sentOrg_succR c ⟨h, Nat.lt_of_succ_lt_succ p⟩ s) rfl
  · exact sends_quarter xs c (.inr (⟨0, p⟩, s)) false rfl (sentOrg_zeroL c s)
  · exact sends_rows xs c (.inr (⟨h + 1, p⟩, s)) (.inr (⟨h, Nat.lt_of_succ_lt p⟩, s)) rfl (sentOrg_succL c ⟨h, Nat.lt_of_succ_lt_succ p⟩ s) rfl

theorem moves_from (c : Dev nD) (t : Tr) : Moves xs c t (fromM c t) (sentM c t) := by
  rw [sentM_eq]
  obtain ⟨q, fs, hp, hw⟩ := sends_from (F := F) xs c t
  refine ⟨q, fs, hp, fun f => ⟨f, slot_rows _ _ _ _, ?_⟩⟩
  show _ ⊢ slot (peer c t) (gotOrg (peer c t) t, sub t) (gath xs)
  rw [gotOrg_peer, slot_rows]
  exact Entails.of_eq (pointsTo_congr fun i hi => hw f i (by rw [← rowsM_set]; exact hi))

/-- Every transfer brings the same credit. -/
theorem credit_rows (o : Dev nD) (s : Fin 4) : (rowsM o s).view.dmaCredit = N := rfl
theorem credit_sent (c : Dev nD) (t : Tr) : (sentM c t).view.dmaCredit = N := by rw [sentM_eq]; exact credit_rows _ _

theorem route (c c' : Dev nD) : τ.routes (c : Thread nD τ) (c' : Thread nD τ) = true := by routes

/-- A copy that is a transfer, started. -/
theorem wp_start (c n : Dev nD) (t : Tr) (hn : n = peer c t) {M D : Memref sig .tc .vmem S64x256 .f32} (hM : Moves xs c t M D) (hN : D.view.dmaCredit = N)
    {hsc : (D : Memref sig (Dev.tc n : Thread nD τ).2.kind .vmem S64x256 .f32).view.ref.isScScratch = false}
    {h1 : M.view.WordExact} {h2 : D.view.WordExact}
    {h3 : DmaTarget.Typed .vmem (.dma (recvS t)) (.remote (Dev.tc n : Thread nD τ) D (.dma (sendS t)) hsc)}
    {Q : PUnit.{1} → sProp 𝕄} {k : PUnit.{1} → Prog (TpuEff nD τ sig (Elt F) Λ₀ .tc) PUnit.{1}} (f : OC F)
    (O : CellTallies nD τ sig Unit) (W : Waits sig Unit) :
    iprop(cellInv ER (Rd xs) (K (c, .inr (.inl t))) (sendCell c t) ∗ cellInv ER (Rd xs) (K (peer c t, .inr (.inr t))) (recvCell (peer c t) t)
        ∗ piece xs c (src t) ∗ slot (peer c t) (sentOrg c t, sub t) f
        ∗ owes (c : Thread nD τ) (O + tallyAt (recvCell (peer c t) t) () N) W
        ∗ dutyTok ER (sendCell c t) 0 false ∗ reached ER (sendCell c t) 0
        ∗ dutyTok ER (recvCell (peer c t) t) 0 false ∗ reached ER (recvCell (peer c t) t) 0)
      ⊢ iprop(((cred (tallyAt (sendCell c t) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) D (.dma (sendS t)) hsc) (.dma (recvS t)) h1 h2 h3) k) Q) := by
  subst hn
  obtain ⟨q, fs, hp, hf⟩ := hM
  obtain ⟨fd, hs, hw⟩ := hf f
  rw [hp, hs]
  exact Rounds.wp_send_pointsTo 𝒱₀ ER (Rd xs) (c : Thread nD τ) none (κ₁ := K (c, .inr (.inl t))) (κ₂ := K (peer c t, .inr (.inr t)))
    (r₁ := 0) (r₂ := 0) (d₁ := false) (d₂ := false) (fd := fd)
    (by rw [duties_send]; exact Finset.mem_singleton_self _) (by rw [duties_recv]; exact Finset.mem_singleton_self _)
    () () N (show D.view.amount (.dma (recvS t)) = N from hN) (amount_send xs c t false) (amount_recv xs (peer c t) t false) O rfl (W := W)
    (by rw [payload_send, hp]) (by rw [payload_recv]; exact hw) (hr := route c (peer c t))

/-! ## Progress -/

/-- The transfers to start, started, departed; to arrive, arrived; and the pieces held. -/
structure St where
  A : Finset Tr
  B : Finset Tr
  C : Finset Tr
  D : Finset Tr
  E : Finset Tr
  H : Finset Pc

/-- What stands for a transfer still to start: its duties, its destination, its departure cell's position. -/
def todo (c : Dev nD) (t : Tr) : sProp 𝕄 :=
  iprop(dutyTok ER (sendCell c t) 0 false ∗ dutyTok ER (recvCell (peer c t) t) 0 false ∗ free (F := F) (peer c t) (sentOrg c t, sub t)
    ∗ atPos ER (sendCell c t) 0 ∅ 0)
/-- One started, one departed, one still to arrive, one arrived. -/
def sent (c : Dev nD) (t : Tr) : sProp 𝕄 := iprop(cred (tallyAt (sendCell c t) () N) ∗ atPos ER (sendCell c t) 0 ∅ 0)
def gone (c : Dev nD) (t : Tr) : sProp 𝕄 := atPos ER (sendCell c t) (0 + 1) ∅ 0
def coming (c : Dev nD) (t : Tr) : sProp 𝕄 := iprop(cred (tallyAt (recvCell c t) () N) ∗ atPos ER (recvCell c t) 0 ∅ 0)
def come (c : Dev nD) (t : Tr) : sProp 𝕄 := atPos ER (recvCell c t) (0 + 1) ∅ 0

/-- What device `c` holds at a state of progress. -/
def Res (c : Dev nD) (σ : St) : sProp 𝕄 :=
  iprop((∃ W, owes (c : Thread nD τ) (OT c σ.A) W) ∗ bigSep σ.A (todo (F := F) c) ∗ bigSep σ.B (sent (F := F) c) ∗ bigSep σ.C (gone (F := F) c)
    ∗ bigSep σ.D (coming (F := F) c) ∗ bigSep σ.E (come (F := F) c) ∗ bigSep σ.H (piece xs c))

/-- A step's effect on the progress, when the step is in order. -/
def advance : Step → St → Option St
  | .send t, σ => if t ∈ σ.A ∧ src t ∈ σ.H ∧ t ∉ σ.B then
      some { σ with A := σ.A.erase t, B := insert t σ.B, H := σ.H.erase (src t) } else none
  | .recv t, σ => if t ∈ σ.D ∧ (∀ u ∈ σ.A, hop t < hop u) ∧ t ∉ σ.E ∧ .inl t ∉ σ.H then
      some { σ with D := σ.D.erase t, E := insert t σ.E, H := insert (.inl t) σ.H } else none
  | .done t, σ => if t ∈ σ.B ∧ t ∉ σ.C ∧ src t ∉ σ.H then
      some { σ with B := σ.B.erase t, C := insert t σ.C, H := insert (src t) σ.H } else none

/-- Taking one out of a separate conjunction over a set, and putting one in. -/
theorem take {I : Type} [DecidableEq I] {S : Finset I} {i : I} (h : i ∈ S) (Φ : I → sProp 𝕄) :
    bigSep S Φ ⊢ iprop(Φ i ∗ bigSep (S.erase i) Φ) := Entails.of_eq (bigSep_erase h)
theorem put {I : Type} [DecidableEq I] {S : Finset I} {i : I} (h : i ∉ S) (Φ : I → sProp 𝕄) :
    iprop(Φ i ∗ bigSep S Φ) ⊢ bigSep (insert i S) Φ := Entails.of_eq (bigSep_insert h).symm

/-- Starting a transfer. -/
theorem wp_stepSend {Q : PUnit.{1} → sProp 𝕄} {k : PUnit.{1} → Prog (TpuEff nD τ sig (Elt F) Λ₀ .tc) PUnit.{1}}
    (c : Dev nD) (t : Tr) (σ : St) (hA : t ∈ σ.A) (hH : src t ∈ σ.H) (hB : t ∉ σ.B) :
    iprop(records xs K ∗ Res xs c σ
        ∗ (Res xs c { σ with A := σ.A.erase t, B := insert t σ.B, H := σ.H.erase (src t) } -∗ wp frame (wpE (defs₀ (F := F)) 𝒱₀ (c : Thread nD τ) none) Set.univ (k ⟨⟩) Q))
      ⊢ wp frame (wpE (defs₀ (F := F)) 𝒱₀ (c : Thread nD τ) none) Set.univ (.op (eff c (.send t)) k) Q := by
  unfold Res
  dsimp only [eff]
  iintro ⟨#HR, ⟨⟨%W, HO⟩, HA, HB, HC, HD, HE, HH⟩, Hk⟩
  ihave HA' := (take hA (todo (F := F) c)) $$ HA
  icases HA' with ⟨Ht, HA⟩
  ihave HH' := (take hH (piece xs c)) $$ HH
  icases HH' with ⟨Hp, HH⟩
  unfold todo free
  icases Ht with ⟨Hs, Hr, ⟨%f, Hf⟩, Hat⟩
  ihave #HI1 := (inv_at xs K (c, .inr (.inl t))) $$ HR
  ihave #HI2 := (inv_at xs K (peer c t, .inr (.inr t))) $$ HR
  ihave #HR1 := (reached_at xs K (c, .inr (.inl t))) $$ HR
  ihave #HR2 := (reached_at xs K (peer c t, .inr (.inr t))) $$ HR
  rw [show OT c σ.A = OT c (σ.A.erase t) + tallyAt (recvCell (peer c t) t) () N from (Finset.sum_erase_add _ _ hA).symm]
  iapply (wp_start xs K c _ t (target_eq c t) (moves_from xs c t) (credit_sent c t) f (OT c (σ.A.erase t)) W) $$ [Hp Hf HO Hs Hr]
  · isplitr; · iexact HI1
    isplitr; · iexact HI2
    isplitl [Hp]; · iexact Hp
    isplitl [Hf]; · iexact Hf
    isplitl [HO]; · iexact HO
    isplitl [Hs]; · iexact Hs
    isplitr; · iexact HR1
    isplitl [Hr]; · iexact Hr
    iexact HR2
  iintro ⟨Hc, HO⟩
  iapply Hk
  isplitl [HO]; · iexists W; iexact HO
  isplitl [HA]; · iexact HA
  isplitl [Hc Hat HB]
  · iapply (put hB (sent (F := F) c))
    unfold sent
    isplitl [Hc Hat]
    · isplitl [Hc] <;> iassumption
    iexact HB
  isplitl [HC]; · iexact HC
  isplitl [HD]; · iexact HD
  isplitl [HE]; · iexact HE
  iexact HH

/-- Waiting for an arrival. -/
theorem wp_stepRecv {Q : PUnit.{1} → sProp 𝕄} {k : PUnit.{1} → Prog (TpuEff nD τ sig (Elt F) Λ₀ .tc) PUnit.{1}}
    (c : Dev nD) (t : Tr) (σ : St) (hD : t ∈ σ.D) (hA : ∀ u ∈ σ.A, hop t < hop u) (hE : t ∉ σ.E) (hH : .inl t ∉ σ.H) :
    iprop(records xs K ∗ levAts L lv ∗ Res xs c σ
        ∗ (Res xs c { σ with D := σ.D.erase t, E := insert t σ.E, H := insert (.inl t) σ.H } -∗ wp frame (wpE (defs₀ (F := F)) 𝒱₀ (c : Thread nD τ) none) Set.univ (k ⟨⟩) Q))
      ⊢ wp frame (wpE (defs₀ (F := F)) 𝒱₀ (c : Thread nD τ) none) Set.univ (.op (eff c (.recv t)) k) Q := by
  unfold Res
  dsimp only [eff]
  iintro ⟨#HR, #Hlev, ⟨⟨%W, HO⟩, HA, HB, HC, HD, HE, HH⟩, Hk⟩
  ihave HD' := (take hD (coming (F := F) c)) $$ HD
  icases HD' with ⟨Ht, HD⟩
  unfold coming
  icases Ht with ⟨Hc, Hat⟩
  ihave #HI := (inv_at xs K (c, .inr (.inr t))) $$ HR
  iapply (Rounds.wp_wait_rest_token 𝒱₀ ER (Rd xs) (c : Thread nD τ) none (κ := K (c, .inr (.inr t)))
      (wpE_waitDma2_eq 𝒱₀ (c : Thread nD τ) none Set.univ) (Set.mem_univ _) () (O := OT c σ.A) (W := W) (R := 0) (m := 0) (T := ∅)
      (by rw [Nat.zero_add]; exact (expect_recv xs c t).symm)) $$ [Hc HO Hat]
  · isplitr; · iexact HI
    isplitl [Hc]; · iexact Hc
    isplitl [HO]; · iexact HO
    isplitr
    · iapply (mayWait_OT c σ.A (.dma (recvS t)) (fun u hu => by rw [clOf_recv]; exact Nat.add_lt_add_left (hA u hu) 2)); iexact Hlev
    iexact Hat
  iintro ⟨HO, Hat, -, Hpay⟩
  ihave Hp := (Entails.of_eq (rest_recv xs c t)) $$ Hpay
  iapply Hk
  isplitl [HO]; · iexists _; iexact HO
  isplitl [HA]; · iexact HA
  isplitl [HB]; · iexact HB
  isplitl [HC]; · iexact HC
  isplitl [HD]; · iexact HD
  isplitl [Hat HE]
  · iapply (put hE (come (F := F) c))
    unfold come
    isplitl [Hat] <;> iassumption
  iapply (put hH (piece xs c))
  isplitl [Hp] <;> iassumption

/-- Waiting for a departure. -/
theorem wp_stepDone {Q : PUnit.{1} → sProp 𝕄} {k : PUnit.{1} → Prog (TpuEff nD τ sig (Elt F) Λ₀ .tc) PUnit.{1}}
    (c : Dev nD) (t : Tr) (σ : St) (hB : t ∈ σ.B) (hC : t ∉ σ.C) (hH : src t ∉ σ.H) :
    iprop(records xs K ∗ levAts L lv ∗ Res xs c σ
        ∗ (Res xs c { σ with B := σ.B.erase t, C := insert t σ.C, H := insert (src t) σ.H } -∗ wp frame (wpE (defs₀ (F := F)) 𝒱₀ (c : Thread nD τ) none) Set.univ (k ⟨⟩) Q))
      ⊢ wp frame (wpE (defs₀ (F := F)) 𝒱₀ (c : Thread nD τ) none) Set.univ (.op (eff c (.done t)) k) Q := by
  unfold Res
  dsimp only [eff]
  iintro ⟨#HR, #Hlev, ⟨⟨%W, HO⟩, HA, HB, HC, HD, HE, HH⟩, Hk⟩
  ihave HB' := (take hB (sent (F := F) c)) $$ HB
  icases HB' with ⟨Ht, HB⟩
  unfold sent
  icases Ht with ⟨Hc, Hat⟩
  ihave #HI := (inv_at xs K (c, .inr (.inl t))) $$ HR
  iapply (Rounds.wp_wait_rest_token 𝒱₀ ER (Rd xs) (c : Thread nD τ) none (κ := K (c, .inr (.inl t)))
      (wpE_waitDma2_eq 𝒱₀ (c : Thread nD τ) none Set.univ) (Set.mem_univ _) () (O := OT c σ.A) (W := W) (R := 0) (m := 0) (T := ∅)
      (by rw [Nat.zero_add]; exact (expect_send xs c t).symm)) $$ [Hc HO Hat]
  · isplitr; · iexact HI
    isplitl [Hc]; · iexact Hc
    isplitl [HO]; · iexact HO
    isplitr
    · iapply (mayWait_OT c σ.A (.dma (sendS t)) (fun u hu => by rw [clOf_send]; exact Nat.lt_of_lt_of_le Nat.zero_lt_two (Nat.le_add_right _ _))); iexact Hlev
    iexact Hat
  iintro ⟨HO, Hat, -, Hpay⟩
  ihave Hp := (Entails.of_eq (rest_send xs c t)) $$ Hpay
  iapply Hk
  isplitl [HO]; · iexists _; iexact HO
  isplitl [HA]; · iexact HA
  isplitl [HB]; · iexact HB
  isplitl [Hat HC]
  · iapply (put hC (gone (F := F) c))
    unfold gone
    isplitl [Hat] <;> iassumption
  isplitl [HD]; · iexact HD
  isplitl [HE]; · iexact HE
  iapply (put hH (piece xs c))
  isplitl [Hp] <;> iassumption

/-- A step in order runs. -/
theorem wp_step {Q : PUnit.{1} → sProp 𝕄} {k : PUnit.{1} → Prog (TpuEff nD τ sig (Elt F) Λ₀ .tc) PUnit.{1}}
    (c : Dev nD) (i : Step) (σ σ' : St) (h : advance i σ = some σ') :
    iprop(records xs K ∗ levAts L lv ∗ Res xs c σ ∗ (Res xs c σ' -∗ wp frame (wpE (defs₀ (F := F)) 𝒱₀ (c : Thread nD τ) none) Set.univ (k ⟨⟩) Q))
      ⊢ wp frame (wpE (defs₀ (F := F)) 𝒱₀ (c : Thread nD τ) none) Set.univ (.op (eff c i) k) Q := by
  rcases i with t | t | t
  · dsimp only [advance] at h
    by_cases hc : t ∈ σ.A ∧ src t ∈ σ.H ∧ t ∉ σ.B
    · rw [if_pos hc] at h
      obtain rfl := Option.some.inj h
      iintro ⟨HR, -, Hs, Hk⟩
      iapply (wp_stepSend xs K c t σ hc.1 hc.2.1 hc.2.2)
      isplitl [HR]; · iexact HR
      isplitl [Hs] <;> iassumption
    · rw [if_neg hc] at h; exact absurd h (by simp)
  · dsimp only [advance] at h
    by_cases hc : t ∈ σ.D ∧ (∀ u ∈ σ.A, hop t < hop u) ∧ t ∉ σ.E ∧ .inl t ∉ σ.H
    · rw [if_pos hc] at h
      obtain rfl := Option.some.inj h
      exact wp_stepRecv xs K c t σ hc.1 hc.2.1 hc.2.2.1 hc.2.2.2
    · rw [if_neg hc] at h; exact absurd h (by simp)
  · dsimp only [advance] at h
    by_cases hc : t ∈ σ.B ∧ t ∉ σ.C ∧ src t ∉ σ.H
    · rw [if_pos hc] at h
      obtain rfl := Option.some.inj h
      exact wp_stepDone xs K c t σ hc.1 hc.2.1 hc.2.2
    · rw [if_neg hc] at h; exact absurd h (by simp)

/-- The progress a list of steps makes. -/
def advances : List Step → St → Option St
  | [], σ => some σ
  | i :: l, σ => (advance i σ).bind (advances l)

/-- A list of steps in order runs. -/
theorem wp_run {Q : PUnit.{1} → sProp 𝕄} (c : Dev nD) : ∀ (l : List Step) (σ σ' : St), advances l σ = some σ' →
    iprop(records xs K ∗ levAts L lv ∗ Res xs c σ ∗ (Res xs c σ' -∗ |={Set.univ}=> Q ⟨⟩))
      ⊢ wp frame (wpE (defs₀ (F := F)) 𝒱₀ (c : Thread nD τ) none) Set.univ (run c l) Q
  | [], σ, σ', h => by
    obtain rfl := Option.some.inj h
    unfold run
    rw [wp_ret]
    iintro ⟨-, -, Hs, Hk⟩
    iapply Hk; iexact Hs
  | i :: l, σ, σ', h => by
    obtain ⟨σ₁, h1, h2⟩ := Option.bind_eq_some_iff.mp h
    unfold run
    iintro ⟨#HR, #Hlev, Hs, Hk⟩
    iapply (wp_step xs K c i σ σ₁ h1)
    isplitr; · iexact HR
    isplitr; · iexact Hlev
    isplitl [Hs]; · iexact Hs
    iintro Hs
    iapply (wp_run c l σ₁ σ' h2)
    isplitr; · iexact HR
    isplitr; · iexact Hlev
    isplitl [Hs] <;> iassumption

/-! ## The whole list -/

/-- Before the first step: everything to do, the staged block held. After the last: everything done, every piece held. -/
def first : St := ⟨Finset.univ, ∅, ∅, Finset.univ, ∅, Finset.univ.map .inr⟩
def last : St := ⟨∅, ∅, Finset.univ, ∅, Finset.univ, Finset.univ⟩

/-- Two states of progress compared. -/
def St.same (σ ρ : St) : Bool := decide (σ.A = ρ.A) && decide (σ.B = ρ.B) && decide (σ.C = ρ.C) && decide (σ.D = ρ.D) && decide (σ.E = ρ.E) && decide (σ.H = ρ.H)
theorem St.eq_of_same {σ ρ : St} (h : σ.same ρ = true) : σ = ρ := by
  cases σ; cases ρ
  simp only [St.same, Bool.and_eq_true, decide_eq_true_eq] at h
  obtain ⟨⟨⟨⟨⟨rfl, rfl⟩, rfl⟩, rfl⟩, rfl⟩, rfl⟩ := h
  rfl

set_option maxRecDepth 65536 in
theorem steps_same : (advances steps first).elim false (·.same last) = true := by decide +kernel

/-- The program's steps are in order, and do everything. -/
theorem steps_advance : advances steps first = some last := by
  have h := steps_same
  rcases hs : advances steps first with _ | σ
  · rw [hs] at h; exact absurd h Bool.false_ne_true
  · rw [hs] at h; exact congrArg some (St.eq_of_same h)

end Cert.Ring

end
-- ==== Proof.Pieces.lean ====
/-
How a device's two staging buffers fall into pieces: the result into its own block and the sixty quarters that arrive, the
staged block into its four quarters at two shares; and how the quarters lent to the neighbours are the ones they lend.
-/
module

public import proofs.«01_k».proof.Proof.Steps

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A set of a buffer's elements, cut into sets with no element in common. -/
theorem pts_cut {ℓ : Loc nD τ sig} {T : Type} [Fintype T] (q : PosShare TreeShare) (f : Buf (Elt F) ℓ) (K : T → Finset (Idx ℓ)) (S : Finset (Idx ℓ))
    (hd : ∀ t t', t ≠ t' → Disjoint (K t) (K t')) (hS : ∀ i, i ∈ S ↔ ∃ t, i ∈ K t) :
    (ℓ ↦[S]{q} f : sProp 𝕄) = bigSep Finset.univ fun t => ℓ ↦[K t]{q} f := by
  rw [← pointsTo_biUnion Finset.univ K fun t _ t' _ h => hd t t' h]
  congr 1
  ext i
  rw [hS, Finset.mem_biUnion]
  simp only [Finset.mem_univ, true_and]

/-- A device's whole staging buffers, and its own block of the result. -/
def xWhole (c : Dev nD) (f : XC F) : sProp 𝕄 := ((c : Thread nD τ).loc cc0_stg0_0) ↦{fullShare} f
def oWhole (c : Dev nD) (f : OC F) : sProp 𝕄 := ((c : Thread nD τ).loc cc0_stg1_0) ↦{fullShare} f
def own (c : Dev nD) (f : OC F) : sProp 𝕄 := ((c : Thread nD τ).loc cc0_stg1_0) ↦[(ownRect c).set]{fullShare} f

/-- The own block is its four quarters. -/
theorem own_tiles (c : Dev nD) (f : OC F) : own c f = (bigSep Finset.univ fun s : Fin 4 => slot c (c, s) f : sProp 𝕄) :=
  pts_cut (ℓ := (c : Thread nD τ).loc cc0_stg1_0) fullShare f (fun s : Fin 4 => tile (c, s)) (ownRect c).set
    (fun s s' h => tile_disjoint fun h' => h (congrArg Prod.snd h'))
    (fun i => ⟨fun h => ⟨(quarterAt i).2, mem_tile.mpr (Prod.ext (mem_own.mp h) rfl)⟩, fun ⟨s, hs⟩ => mem_own.mpr (congrArg Prod.fst (mem_tile.mp hs))⟩)

/-- The result is the own block and the quarters that arrive. -/
theorem oWhole_split (c : Dev nD) (f : OC F) :
    oWhole c f = iprop(own c f ∗ bigSep Finset.univ fun t : Tr => slot c (gotOrg c t, sub t) f) := by
  have h : oWhole c f = (bigSep Finset.univ fun x : Fin 4 ⊕ Tr => slot c (quarterOf c x) f : sProp 𝕄) :=
    pts_cut (ℓ := (c : Thread nD τ).loc cc0_stg1_0) fullShare f (fun x : Fin 4 ⊕ Tr => tile (quarterOf c x)) Finset.univ
      (fun x x' h => tile_disjoint fun h' => h ((quarterOf_bijective c).1 h'))
      (fun i => ⟨fun _ => (quarterOf_bijective c).2 (quarterAt i) |>.imp fun _ hx => mem_tile.mpr hx.symm, fun _ => Finset.mem_univ i⟩)
  rw [h, own_tiles, bigSep_univ_sum]
  rfl

/-- The quarter of the block an index lies in. -/
def quarterOfX (i : S256x256.Idx) : Fin 4 := ⟨(i 0).val / 64, Nat.div_lt_of_lt_mul (i 0).isLt⟩

/-- A share of the staged block is that share of its four quarters. -/
theorem x_tiles (xs : Dev nD → XC F) (c : Dev nD) (q : PosShare TreeShare) :
    (((c : Thread nD τ).loc cc0_stg0_0) ↦{q} xs c : sProp 𝕄) = bigSep Finset.univ fun s : Fin 4 => xslot xs c s q :=
  pts_cut (ℓ := (c : Thread nD τ).loc cc0_stg0_0) q (xs c) xtile Finset.univ (fun s s' h => xtile_disjoint h)
    (fun i => ⟨fun _ => ⟨quarterOfX i, mem_xtile.mpr rfl⟩, fun _ => Finset.mem_univ i⟩)

/-- The staged block is its eight pieces. -/
theorem xWhole_split (xs : Dev nD → XC F) (c : Dev nD) :
    (xWhole c (xs c) : sProp 𝕄) ⊣⊢ bigSep Finset.univ fun x : Bool × Fin 4 => piece xs c (.inr x) := by
  rw [bigSep_univ_prod, bigSep_univ_eq_bigSepL [true, false] (by decide) (by decide), bigSepL_cons_cons, bigSepL_singleton]
  have h (b : Bool) : (bigSep Finset.univ fun s : Fin 4 => piece xs c (.inr (b, s))) = (((c : Thread nD τ).loc cc0_stg0_0) ↦{half b} xs c : sProp 𝕄) :=
    (x_tiles xs c (half b)).symm
  rw [h, h]
  exact pointsTo_share (PosShare.mem_left_op_right fullShare)

/-- Every piece: the staged block's and those that arrived. -/
theorem pieces_all (xs : Dev nD → XC F) (c : Dev nD) :
    bigSep Finset.univ (piece xs c) = iprop((bigSep Finset.univ fun t : Tr => slot c (gotOrg c t, sub t) (gath xs))
      ∗ bigSep Finset.univ fun x : Bool × Fin 4 => piece xs c (.inr x)) := by
  rw [bigSep_univ_sum]; rfl

/-- The transfers are those of the two directions. -/
theorem dir_split (Φ : Tr → sProp 𝕄) : bigSep Finset.univ Φ = iprop(bigSep (dirTr true) Φ ∗ bigSep (dirTr false) Φ) := by
  rw [BI.bigSep_filter_split Finset.univ (fun t : Tr => t.isLeft = true)]
  have h : (Finset.univ.filter fun t : Tr => ¬ t.isLeft = true) = dirTr false :=
    Finset.filter_congr fun t _ => by rw [Bool.not_eq_true]
  rw [h]; rfl

/-- A quarter at some contents is a free one. -/
theorem free_of (c : Dev nD) (p : Dev nD × Fin 4) (f : OC F) : (slot c p f : sProp 𝕄) ⊢ free (F := F) c p := by
  unfold free
  iintro H
  iexists f; iexact H

/-- The quarters that arrive at a device are what it lends its neighbours. -/
theorem lend (c : Dev nD) (f : OC F) :
    (bigSep Finset.univ fun t : Tr => slot c (gotOrg c t, sub t) f : sProp 𝕄) ⊢ iprop(barPay (prv c) true ∗ barPay (nxt c) false) := by
  rw [dir_split]
  have h (b : Bool) (d : Dev nD) (hd : ∀ t ∈ dirTr b, peer d t = c) :
      (bigSep (dirTr b) fun t : Tr => slot c (gotOrg c t, sub t) f : sProp 𝕄) ⊢ barPay d b := by
    unfold barPay
    refine bigSep_mono fun t ht => ?_
    rw [← gotOrg_peer, hd t ht]
    exact free_of _ _ _
  refine BI.sep_mono (h true (prv c) fun t ht => ?_) (h false (nxt c) fun t ht => ?_)
  · rcases t with t | t
    · exact nxt_prv c
    · exact absurd (Finset.mem_filter.mp ht).2 Bool.false_ne_true
  · rcases t with t | t
    · exact absurd (Finset.mem_filter.mp ht).2.symm Bool.false_ne_true
    · exact prv_nxt c

/-- What both neighbours lend a device is every quarter it writes. -/
theorem lent (c : Dev nD) : (iprop(barPay (F := F) c false ∗ barPay c true) : sProp 𝕄)
    ⊢ bigSep Finset.univ fun t : Tr => free (peer c t) (sentOrg c t, sub t) := by
  rw [dir_split]
  unfold barPay
  iintro ⟨H1, H2⟩
  isplitl [H2] <;> iassumption

end Cert.Ring

end
-- ==== Proof.Body.lean ====
/-
The whole body on one device: it lends its neighbours the quarters of its result, gets the quarters it will write on
theirs, stores its own block, runs the steps, and ends with every cell closed and the gathered result.
-/
module

public import proofs.«01_k».proof.Proof.Pieces

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XC F)

/-! ## Before and after -/

/-- The duties and the position a device has for a transfer it starts. -/
def duty (c : Dev nD) (t : Tr) : sProp 𝕄 :=
  iprop(dutyTok ER (sendCell c t) 0 false ∗ dutyTok ER (recvCell (peer c t) t) 0 false ∗ atPos ER (sendCell c t) 0 ∅ 0)

/-- What a device's body starts from, beside its buffers. -/
def before (c : Dev nD) : sProp 𝕄 :=
  iprop((∃ K, records xs K) ∗ levAts L lv ∗ atPos ER (barCell c) 0 ∅ 0 ∗ cred (tallyAt (barCell c) () 2)
    ∗ dutyTok ER (barCell (prv c)) 0 true ∗ dutyTok ER (barCell (nxt c)) 0 false
    ∗ bigSep Finset.univ (duty (F := F) c) ∗ bigSep Finset.univ (coming (F := F) c))

/-- What it ends with: every cell of its own closed, at zero. -/
def after (c : Dev nD) : sProp 𝕄 := bigSep Finset.univ fun k : Cl => semVal (kcell (c, k)) 0

/-! ## Closing the cells -/

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_one (K : Dev nD × Cl → ℕ) (x : Dev nD × Cl) :
    iprop(records xs K ∗ atPos ER (kcell x) (0 + 1) ∅ 0) ⊢ iprop(|={Set.univ}=> semVal (kcell x) 0) := by
  iintro ⟨HR, Hat⟩
  ihave HI := (inv_at xs K x) $$ HR
  iapply (Rounds.cell_close ER (Rd xs) (Set.mem_univ (K x)) (fun h => h) (R := 0 + 1) (duties_later xs (kcell x)))
  isplitl [HI] <;> iassumption

/-- Every cell past its one round is closed. -/
theorem close_all (K : Dev nD × Cl → ℕ) (c : Dev nD) :
    iprop(records xs K ∗ atPos ER (barCell c) (0 + 1) ∅ 0 ∗ bigSep Finset.univ (gone (F := F) c) ∗ bigSep Finset.univ (come (F := F) c))
      ⊢ iprop(|={Set.univ}=> after c) := by
  have h : (bigSep Finset.univ fun k : Cl => atPos ER (kcell (c, k)) (0 + 1) ∅ 0 : sProp 𝕄)
      = iprop(atPos ER (barCell c) (0 + 1) ∅ 0 ∗ bigSep Finset.univ (gone (F := F) c) ∗ bigSep Finset.univ (come (F := F) c)) := by
    rw [bigSep_univ_sum, bigSep_univ_sum, BI.bigSep_univ_of_subsingleton (i := ())]
    rfl
  rw [← h]
  unfold after
  exact (with_persistent fun k _ => close_one xs K (c, k)).trans (bigSep_fupd _ _)

/-! ## The handshake -/

theorem duty_bar (c : Dev nD) (b : Bool) : b ∈ (Rd xs).duties (barCell c) 0 := by rw [duties_bar]; exact Finset.mem_univ b

/-- A signal to a neighbour hands it what this device lends it. -/
theorem wp_hand {Q : PUnit.{1} → sProp 𝕄} {k : PUnit.{1} → Prog (TpuEff nD τ sig (Elt F) Λ₀ .tc) PUnit.{1}}
    (K : Dev nD × Cl → ℕ) (c n : Dev nD) (b : Bool) (w : ℤ) (hw : w = (1 : ℕ)) (O : CellTallies nD τ sig Unit) (W : Waits sig Unit) :
    iprop(records xs K ∗ owes (c : Thread nD τ) (O + tallyAt (barCell n) () 1) W ∗ dutyTok ER (barCell n) 0 b ∗ barPay n b
        ∗ (owes (c : Thread nD τ) O W -∗ wp frame (wpE (defs₀ (F := F)) 𝒱₀ (c : Thread nD τ) none) Set.univ (k ⟨⟩) Q))
      ⊢ wp frame (wpE (defs₀ (F := F)) 𝒱₀ (c : Thread nD τ) none) Set.univ (.op (.semSignal (n : Thread nD τ) barS w) k) Q := by
  subst hw
  iintro ⟨#HR, HO, Ht, Hp, Hk⟩
  ihave #HI := (inv_at xs K (n, .inl ())) $$ HR
  ihave #HR1 := (reached_at xs K (n, .inl ())) $$ HR
  iapply (Rounds.wp_signal 𝒱₀ ER (Rd xs) (c : Thread nD τ) none (dst := (n : Thread nD τ)) (κ := K (n, .inl ()))
      (d := b) (duty_bar xs n b) (amount_bar xs n b) () O rfl (hr := route c n)) $$ [HO Ht Hp]
  · isplitr; · iexact HI
    isplitl [HO]; · iexact HO
    isplitl [Ht]; · iexact Ht
    isplitl [Hp]; · rw [payload_bar]; iexact Hp
    iexact HR1
  iexact Hk

/-- The wait for both neighbours' signals brings every quarter this device writes on them. -/
theorem wp_handed {Q : PUnit.{1} → sProp 𝕄} {k : PUnit.{1} → Prog (TpuEff nD τ sig (Elt F) Λ₀ .tc) PUnit.{1}}
    (K : Dev nD × Cl → ℕ) (c : Dev nD) (w : ℤ) (hw : w = (2 : ℕ)) (W : Waits sig Unit) :
    iprop(records xs K ∗ levAts L lv ∗ cred (tallyAt (barCell c) () 2) ∗ owes (c : Thread nD τ) (OT c Finset.univ) W ∗ atPos ER (barCell c) 0 ∅ 0
        ∗ ((∃ W, owes (c : Thread nD τ) (OT c Finset.univ) W) ∗ atPos ER (barCell c) (0 + 1) ∅ 0
            ∗ (bigSep Finset.univ fun t : Tr => free (F := F) (peer c t) (sentOrg c t, sub t))
          -∗ wp frame (wpE (defs₀ (F := F)) 𝒱₀ (c : Thread nD τ) none) Set.univ (k ⟨⟩) Q))
      ⊢ wp frame (wpE (defs₀ (F := F)) 𝒱₀ (c : Thread nD τ) none) Set.univ (.op (.semWait barS w) k) Q := by
  subst hw
  iintro ⟨#HR, #Hlev, Hc, HO, Hat, Hk⟩
  ihave #HI := (inv_at xs K (c, .inl ())) $$ HR
  iapply (Rounds.wp_wait_rest_token 𝒱₀ ER (Rd xs) (c : Thread nD τ) none (κ := K (c, .inl ()))
      (wpE_semWait_eq 𝒱₀ (c : Thread nD τ) none Set.univ) (Set.mem_univ _) () (O := OT c Finset.univ) (W := W) (R := 0) (m := 0) (T := ∅)
      (by rw [Nat.zero_add]; exact (expect_bar xs c).symm)) $$ [Hc HO Hat]
  · isplitr; · iexact HI
    isplitl [Hc]; · iexact Hc
    isplitl [HO]; · iexact HO
    isplitr
    · iapply (mayWait_OT c Finset.univ (.reg barS) (fun u hu => by rw [clOf_bar]; exact Nat.lt_of_lt_of_le Nat.one_lt_two (Nat.le_add_right _ _))); iexact Hlev
    iexact Hat
  iintro ⟨HO, Hat, -, Hpay⟩
  ihave Hp := (Entails.of_eq (rest_bar xs c)) $$ Hpay
  ihave Hp' := (lent (F := F) c) $$ Hp
  iapply Hk
  isplitl [HO]; · iexists _; iexact HO
  isplitl [Hat] <;> iassumption

/-! ## The own block -/

/-- The staged block read. -/
theorem wp_loadX {Q : PUnit.{1} → sProp 𝕄} {k : Vec F S256x256 .f32 → Prog (TpuEff nD τ sig (Elt F) Λ₀ .tc) PUnit.{1}} (c : Dev nD) (f : XC F)
    {h : xM.view.LoadsAt (Rect.unit (s := S256x256) ![0, 0] S256x256.size inb_S256x256_S256x256_0_0).toLoadRect} :
    iprop(xWhole c f ∗ (xWhole c f -∗ wp frame (wpE (defs₀ (F := F)) 𝒱₀ (c : Thread nD τ) none) Set.univ (k f) Q))
      ⊢ wp frame (wpE (defs₀ (F := F)) 𝒱₀ (c : Thread nD τ) none) Set.univ
          (.op (.load xM (Rect.unit (s := S256x256) ![0, 0] S256x256.size inb_S256x256_S256x256_0_0).toLoadRect h) k) Q := by
  have hr : xM.view.readAt (Elt F) (Rect.unit (s := S256x256) ![0, 0] S256x256.size inb_S256x256_S256x256_0_0).toLoadRect f = f :=
    Memref.readAt_unit_zero (Elt F) cc0_stg0_0 (funext fun a => by fin_cases a <;> rfl) _ f
  unfold xWhole
  iintro ⟨Hx, Hk⟩
  iapply (wp_load 𝒱₀ (c : Thread nD τ) none Set.univ (m := xM) (Finset.subset_univ _)) $$ Hx
  iintro Hx
  rw [hr]
  iapply Hk; iexact Hx

/-- The own block of the result read, and let go. -/
theorem wp_loadO {Q : PUnit.{1} → sProp 𝕄} {k : Vec F S256x256 .f32 → Prog (TpuEff nD τ sig (Elt F) Λ₀ .tc) PUnit.{1}} (c : Dev nD) (f : OC F)
    {h : oM.view.LoadsAt (ownRect c).toLoadRect} :
    iprop(own c f ∗ (∀ v, own c f -∗ wp frame (wpE (defs₀ (F := F)) 𝒱₀ (c : Thread nD τ) none) Set.univ (k v) Q))
      ⊢ wp frame (wpE (defs₀ (F := F)) 𝒱₀ (c : Thread nD τ) none) Set.univ (.op (.load oM (ownRect c).toLoadRect h) k) Q := by
  unfold own
  iintro ⟨Ho, Hk⟩
  iapply (wp_load_rect 𝒱₀ (c : Thread nD τ) none Set.univ (m := oM) (r := ownRect c) (S := (ownRect c).set) (by rw [View.set_slice_whole])) $$ Ho
  iintro Ho
  iapply Hk; iexact Ho

/-- The own block stored. -/
theorem wp_storeO {Q : PUnit.{1} → sProp 𝕄} {k : PUnit.{1} → Prog (TpuEff nD τ sig (Elt F) Λ₀ .tc) PUnit.{1}} (c : Dev nD) (f : OC F)
    {h : (oM.access (ownRect c)).Stores Finset.univ} {hm : Finset.univ = Finset.univ ∨ ∀ a, (ownRect c).stride a = 1} :
    iprop(own c f ∗ (own c (gath xs) -∗ wp frame (wpE (defs₀ (F := F)) 𝒱₀ (c : Thread nD τ) none) Set.univ (k ⟨⟩) Q))
      ⊢ wp frame (wpE (defs₀ (F := F)) 𝒱₀ (c : Thread nD τ) none) Set.univ (.op (.store oM (ownRect c) (k0_pay1 (xs c)) Finset.univ h hm) k) Q := by
  have hw : (((c : Thread nD τ).loc cc0_stg1_0) ↦[(ownRect c).set]{fullShare} ((oM.access (ownRect c)).write (Elt F) f (k0_pay1 (xs c)) Finset.univ) : sProp 𝕄)
      = (((c : Thread nD τ).loc cc0_stg1_0) ↦[(ownRect c).set]{fullShare} gath xs) := pointsTo_congr (write_own xs c f)
  iintro ⟨Ho, Hk⟩
  unfold own
  iapply (wp_store 𝒱₀ (c : Thread nD τ) none Set.univ (m := oM) (r := ownRect c) (w := k0_pay1 (xs c)) (Mk := Finset.univ) (S := (ownRect c).set)
    (by rw [View.setOn_univ, View.set_slice_whole])) $$ Ho
  iintro Ho
  iapply Hk
  iapply (Entails.of_eq hw); iexact Ho

/-! ## The steps, from the lent quarters to the gathered result -/

/-- A transfer's duties and its destination are all it takes to start it. -/
theorem duty_todo (c : Dev nD) (t : Tr) : iprop(duty (F := F) c t ∗ free (F := F) (peer c t) (sentOrg c t, sub t)) ⊢ todo (F := F) c t := by
  unfold duty todo
  iintro ⟨⟨H1, H2, H3⟩, H4⟩
  isplitl [H1]; · iexact H1
  isplitl [H2]; · iexact H2
  isplitl [H4] <;> iassumption

/-- The state before the first step, from what the handshake leaves. -/
theorem first_intro (c : Dev nD) :
    iprop((∃ W, owes (c : Thread nD τ) (OT c Finset.univ) W) ∗ bigSep Finset.univ (duty (F := F) c)
        ∗ (bigSep Finset.univ fun t : Tr => free (F := F) (peer c t) (sentOrg c t, sub t)) ∗ bigSep Finset.univ (coming (F := F) c) ∗ xWhole c (xs c))
      ⊢ Res xs c first := by
  have ht : iprop(bigSep Finset.univ (duty (F := F) c) ∗ bigSep Finset.univ fun t : Tr => free (F := F) (peer c t) (sentOrg c t, sub t))
      ⊢ bigSep Finset.univ (todo (F := F) c) := by
    rw [← bigSep_sep']
    exact bigSep_mono fun t _ => duty_todo c t
  have hx : xWhole c (xs c) ⊢ bigSep (Finset.univ.map .inr) (piece xs c) := by
    rw [BI.bigSep_map]; exact (xWhole_split xs c).1
  unfold Res first
  dsimp only
  rw [bigSep_empty, bigSep_empty, bigSep_empty]
  iintro ⟨HO, Hd, Hf, Hc, Hx⟩
  isplitl [HO]; · iexact HO
  isplitl [Hd Hf]
  · iapply ht; isplitl [Hd] <;> iassumption
  isplitr; · iempintro
  isplitr; · iempintro
  isplitl [Hc]; · iexact Hc
  isplitr; · iempintro
  iapply hx; iexact Hx

/-- What the last step leaves. -/
theorem last_elim (c : Dev nD) :
    iprop(Res xs c last ∗ own c (gath xs)) ⊢ iprop((∃ W, owes (c : Thread nD τ) 0 W) ∗ bigSep Finset.univ (gone (F := F) c) ∗ bigSep Finset.univ (come (F := F) c)
        ∗ xWhole c (xs c) ∗ oWhole c (gath xs)) := by
  have h0 : OT c ∅ = 0 := Finset.sum_empty
  rw [oWhole_split]
  unfold Res last
  dsimp only
  rw [h0, pieces_all]
  iintro ⟨⟨HO, -, -, HC, -, HE, Hs, Hx⟩, Hown⟩
  isplitl [HO]; · iexact HO
  isplitl [HC]; · iexact HC
  isplitl [HE]; · iexact HE
  isplitl [Hx]
  · iapply (xWhole_split xs c).2; iexact Hx
  isplitl [Hown] <;> iassumption

/-- The body: from the staged block and a result buffer at any contents to the gathered result, every cell closed. -/
theorem wp_body {Q : PUnit.{1} → sProp 𝕄} (c : Dev nD) (f : OC F) :
    iprop(before xs c ∗ (∃ W, owes (c : Thread nD τ) (O₀ c) W) ∗ xWhole c (xs c) ∗ oWhole c f
        ∗ (after (F := F) c ∗ (∃ W, owes (c : Thread nD τ) 0 W) ∗ xWhole c (xs c) ∗ oWhole c (gath xs) -∗ Q ⟨⟩))
      ⊢ wp frame (wpE (defs₀ (F := F)) 𝒱₀ (c : Thread nD τ) none) Set.univ body Q := by
  unfold body
  simp only [semSignalWord, semWaitWord, Prog.lift, Prog.bind_op, Prog.bind_ret, wp_deviceId]
  rw [show (⟨k0_dev1 ((c : Thread nD τ).1), k0_dev1_lt _⟩ : Dev nD) = prv c from dev1_eq c,
    show (⟨k0_dev2 ((c : Thread nD τ).1), k0_dev2_lt _⟩ : Dev nD) = nxt c from dev2_eq c]
  unfold before
  rw [oWhole_split c f]
  iintro ⟨⟨⟨%K, #HR⟩, #Hlev, Hat, Hcr, Htp, Htn, Hd, Hc⟩, ⟨%W, HO⟩, Hx, ⟨Hown, Hslots⟩, Hk⟩
  ihave Hl := (lend c f) $$ Hslots
  icases Hl with ⟨Hlp, Hln⟩
  unfold O₀
  iapply (wp_hand xs K c (prv c) true _ rfl (O₁ c) W)
  isplitr; · iexact HR
  isplitl [HO]; · iexact HO
  isplitl [Htp]; · iexact Htp
  isplitl [Hlp]; · iexact Hlp
  iintro HO
  unfold O₁
  iapply (wp_hand xs K c (nxt c) false _ rfl (OT c Finset.univ) W)
  isplitr; · iexact HR
  isplitl [HO]; · iexact HO
  isplitl [Htn]; · iexact Htn
  isplitl [Hln]; · iexact Hln
  iintro HO
  iapply (wp_handed xs K c _ rfl W)
  isplitr; · iexact HR
  isplitr; · iexact Hlev
  isplitl [Hcr]; · iexact Hcr
  isplitl [HO]; · iexact HO
  isplitl [Hat]; · iexact Hat
  iintro ⟨HO, Hat, Hf⟩
  iapply (wp_loadX c (xs c))
  isplitl [Hx]; · iexact Hx
  iintro Hx
  iapply (wp_loadO c f)
  isplitl [Hown]; · iexact Hown
  iintro %v Hown
  iapply (wp_storeO xs c f)
  isplitl [Hown]; · iexact Hown
  iintro Hown
  iapply (wp_run xs K c steps first last steps_advance)
  isplitr; · iexact HR
  isplitr; · iexact Hlev
  isplitl [HO Hd Hf Hc Hx]
  · iapply (first_intro xs c)
    isplitl [HO]; · iexact HO
    isplitl [Hd]; · iexact Hd
    isplitl [Hf]; · iexact Hf
    isplitl [Hc] <;> iassumption
  iintro Hs
  ihave He := (last_elim xs c) $$ [Hs Hown]
  · isplitl [Hs] <;> iassumption
  icases He with ⟨HO, HC, HE, Hx, Ho⟩
  imod (close_all xs K c) $$ [Hat HC HE] with Ha
  · isplitr; · iexact HR
    isplitl [Hat]; · iexact Hat
    isplitl [HC] <;> iassumption
  imodintro
  iapply Hk
  isplitl [Ha]; · iexact Ha
  isplitl [HO]; · iexact HO
  isplitl [Hx] <;> iassumption

end Cert.Ring

end
-- ==== Proof.Start.lean ====
/-
The start of the run: the cells' rounds opened on every device at once, and what each device's body starts from dealt out
to it: its positions, the duties it pays on its neighbours' cells and its own, and the credit it waits with.
-/
module

public import proofs.«01_k».proof.Proof.Body
public import proofs.«01_k».proof.Proof.Gen.KernelIdeal.Launch

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XC F)

/-! ## The cells' rounds and duties -/

/-- The semaphores the kernel names that live no longer than it: its departures' and arrivals'. -/
def osem (k : Tr ⊕ Tr) : SemLoc sig := csem (.inr k)

theorem ownSemFacts : Pipeline.OwnSemFacts cfg0.spec osem where
  isScoped := by decide +kernel
  inj := fun a b h => Sum.inr_injective (csem_injective h)
  disj := by decide +kernel

/-- Every device's cells. -/
def ringCells : Finset (GSem nD τ sig) := Finset.univ.map ⟨kcell, kcell_injective⟩

/-- The duties of a device's own cells: two of its barrier's, one of each other. -/
def tokOf (x : Dev nD × (Bool ⊕ (Tr ⊕ Tr))) : GSem nD τ sig × ℕ × Bool := match x.2 with
  | .inl b => (barCell x.1, 0, b)
  | .inr k => (kcell (x.1, .inr k), 0, false)

theorem tokOf_injective : Function.Injective tokOf := by
  rintro ⟨c, j⟩ ⟨c', j'⟩ h
  rcases j with b | k <;> rcases j' with b' | k'
  · have h1 : c = c' := congrArg Prod.fst (kcell_injective (a₁ := (c, .inl ())) (a₂ := (c', .inl ())) (congrArg Prod.fst h))
    have h2 : b = b' := congrArg (fun x : GSem nD τ sig × ℕ × Bool => x.2.2) h
    rw [h1, h2]
  · exact nomatch congrArg Prod.snd (kcell_injective (a₁ := (c, .inl ())) (a₂ := (c', .inr k')) (congrArg Prod.fst h))
  · exact nomatch congrArg Prod.snd (kcell_injective (a₁ := (c, .inr k)) (a₂ := (c', .inl ())) (congrArg Prod.fst h))
  · have h0 := kcell_injective (a₁ := (c, .inr k)) (a₂ := (c', .inr k')) (congrArg Prod.fst h)
    have h1 : c = c' := congrArg Prod.fst h0
    have h2 : k = k' := Sum.inr_injective (congrArg Prod.snd h0)
    rw [h1, h2]

def ringToks : Finset (GSem nD τ sig × ℕ × Bool) := Finset.univ.map ⟨tokOf, tokOf_injective⟩

/-- The staging's resources and the protocol's. -/
def u₀ : UU := (initOf (Pipeline.cells cfgs cellOf_inj) (Pipeline.launchToks cfgs cellOf_inj), initOf ringCells ringToks)

/-- The duties of a device's own cells. -/
def toks (c : Dev nD) : sProp 𝕄 :=
  iprop((dutyTok ER (barCell c) 0 false ∗ dutyTok ER (barCell c) 0 true)
    ∗ (bigSep Finset.univ fun t : Tr => dutyTok ER (sendCell c t) 0 false) ∗ bigSep Finset.univ fun t : Tr => dutyTok ER (recvCell c t) 0 false)

/-- What the start deals a device: its cells' states, its positions in them, their duties. -/
def G (c : Dev nD) : sProp 𝕄 :=
  iprop((bigSep Finset.univ fun k : Cl => roundState ER (Rd xs) (kcell (c, k)) 0)
    ∗ (bigSep Finset.univ fun k : Cl => iprop(atPos ER (kcell (c, k)) 0 ∅ 0 ∗ reached ER (kcell (c, k)) 0)) ∗ toks c)

theorem toks_eq (c : Dev nD) :
    (bigSep Finset.univ fun j => (dutyTok ER (tokOf (c, j)).1 (tokOf (c, j)).2.1 (tokOf (c, j)).2.2 : sProp 𝕄)) = toks c := by
  rw [bigSep_univ_sum, bigSep_univ_sum, bigSep_univ_eq_bigSepL [false, true] (by decide) (by decide), bigSepL_cons_cons, bigSepL_singleton]
  rfl

theorem fund_ring : BI.own (ER (initOf ringCells ringToks)) ⊢ (|==> bigSep Finset.univ (G xs) : sProp 𝕄) := by
  have hX (Φ : GSem nD τ sig → sProp 𝕄) : bigSep ringCells Φ = bigSep Finset.univ fun c : Dev nD => bigSep Finset.univ fun k : Cl => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd xs) ringCells ringToks) $$ HX with ⟨Hst, Hr, Hat, Htok⟩
  imodintro
  ihave Hst := (Entails.of_eq (hX fun g => roundState ER (Rd xs) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores -/

/-- The barrier's is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's semaphores, at zero, are its cells'. -/
theorem after_eq (c : Dev nD) :
    (after c : sProp 𝕄) = iprop(unscopedSems0 c ∗ Pipeline.ownSems0 (Ix := Unit) (Name := ℕ) (U := UU) (Lvl := ℕ) (Val := Elt F) (τ := τ) osem c) := by
  unfold after
  rw [unscopedSems0_eq, bigSep_univ_sum, BI.bigSep_univ_of_subsingleton (i := ())]
  rfl

theorem core_alloc (c : Dev nD) :
    iprop(Pipeline.ownSems0 (Ix := Unit) (Name := ℕ) (U := UU) (Lvl := ℕ) (Val := Elt F) (τ := τ) osem c ∗ unscopedSems0 c ∗ G xs c)
      ⊢ |={Set.univ}=> iprop((bigSep Finset.univ fun k => iprop(∃ κ : ℕ, cellInv ER (Rd xs) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (after_eq (F := F) c).symm) $$ [Hos Hus]
  · isplitl [Hus] <;> iassumption
  imod (show iprop(after c ∗ bigSep Finset.univ fun k : Cl => roundState ER (Rd xs) (kcell (c, k)) 0)
      ⊢ (|={Set.univ}=> bigSep Finset.univ fun k => iprop(∃ κ : ℕ, cellInv ER (Rd xs) κ (kcell (c, k))) : sProp 𝕄) from by
        unfold after
        rw [← bigSep_sep']
        exact (bigSep_mono fun k _ => (Rounds.body_intro ER (Rd xs) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The duties dealt round the ring -/

/-- The duties a device pays: a signal to each neighbour, and each transfer's departure and arrival. -/
def payToks (c : Dev nD) : sProp 𝕄 :=
  iprop((dutyTok ER (barCell (prv c)) 0 true ∗ dutyTok ER (barCell (nxt c)) 0 false)
    ∗ (bigSep Finset.univ fun t : Tr => dutyTok ER (sendCell c t) 0 false)
    ∗ bigSep Finset.univ fun t : Tr => dutyTok ER (recvCell (peer c t) t) 0 false)

/-- Its positions in its own cells, and the duties it pays. -/
def linear (c : Dev nD) : sProp 𝕄 := iprop((bigSep Finset.univ fun k : Cl => atPos ER (kcell (c, k)) 0 ∅ 0) ∗ payToks c)

/-- What the start makes of what it dealt. -/
def G' (c : Dev nD) : sProp 𝕄 := iprop(∃ K, records xs K ∗ linear c)

/-- A device's transfer, to the same transfer's arrival where it is addressed. -/
def shift : Dev nD × Tr ≃ Dev nD × Tr :=
  ⟨fun x => (peer x.1 x.2, x.2), fun x => (giver x.1 x.2, x.2), fun x => Prod.ext (giver_peer x.1 x.2) rfl, fun x => Prod.ext (peer_giver x.1 x.2) rfl⟩

/-- An arrival's duty goes to the device whose transfer arrives. -/
theorem arrivals_around : (bigSep Finset.univ fun c : Dev nD => bigSep Finset.univ fun t : Tr => (dutyTok ER (recvCell c t) 0 false : sProp 𝕄))
    = bigSep Finset.univ fun c : Dev nD => bigSep Finset.univ fun t : Tr => dutyTok ER (recvCell (peer c t) t) 0 false := by
  rw [← bigSep_univ_prod (fun x : Dev nD × Tr => (dutyTok ER (recvCell x.1 x.2) 0 false : sProp 𝕄)),
    bigSep_univ_equiv shift, bigSep_univ_prod]
  rfl

/-- Each cell's duties go to the devices that pay them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', arrivals_around,
    bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2⟩, H3, H4⟩
  isplitl [H1 H2]
  · isplitl [H2]; · iexact H2
    iexact H1
  isplitl [H3]; · iexact H3
  iexact H4

theorem regroup :
    (bigSep Finset.univ fun c : Dev nD => iprop((bigSep Finset.univ fun k => iprop(∃ κ : ℕ, cellInv ER (Rd xs) κ (kcell (c, k))))
          ∗ (bigSep Finset.univ fun k => iprop(atPos ER (kcell (c, k)) 0 ∅ 0 ∗ reached ER (kcell (c, k)) 0)) ∗ toks c) : sProp 𝕄)
      ⊢ bigSep Finset.univ (G' xs) := by
  rw [bigSep_sep', bigSep_sep', ← bigSep_univ_prod (fun x : Dev nD × Cl => iprop(∃ κ : ℕ, cellInv ER (Rd xs) κ (kcell x))),
    bigSep_congr (s := Finset.univ) (fun (c : Dev nD) _ => bigSep_sep' Finset.univ (fun k : Cl => (atPos ER (kcell (c, k)) 0 ∅ 0 : sProp 𝕄)) (fun k => reached ER (kcell (c, k)) 0)),
    bigSep_sep', ← bigSep_univ_prod (fun x : Dev nD × Cl => (reached ER (kcell x) 0 : sProp 𝕄))]
  iintro ⟨HI, ⟨Hat, #HR⟩, Htok⟩
  ihave HK := (BI.bigSep_exists_pi Finset.univ (fun (x : Dev nD × Cl) (κ : ℕ) => (cellInv ER (Rd xs) κ (kcell x) : sProp 𝕄))) $$ HI
  icases HK with ⟨%K, #HI⟩
  ihave Htk := (toks_around (F := F)) $$ Htok
  iapply (with_persistent (R := records xs K) (Φ := linear) (Ψ := G' xs) fun c _ => by
    unfold G'; iintro H; iexists K; iexact H)
  isplitr
  · unfold records; isplitl; · iexact HI
    iexact HR
  · unfold linear
    rw [bigSep_sep']
    isplitl [Hat]; · iexact Hat
    iexact Htk

/-- Every device's semaphores become its cells, and the duties are dealt. -/
theorem glob : (bigSep Finset.univ fun c => iprop(Pipeline.ownSems0 (Ix := Unit) (Name := ℕ) (U := UU) (Lvl := ℕ) (Val := Elt F) (τ := τ) osem c ∗ unscopedSems0 c ∗ G xs c) : sProp 𝕄)
    ⊢ |={Set.univ}=> bigSep Finset.univ (G' xs) :=
  ((bigSep_mono fun c _ => core_alloc xs c).trans (bigSep_fupd _ _)).trans (BI.fupd_mono (regroup xs))

/-! ## The credit at the start -/

theorem bar_inj {a b : Dev nD} (h : barCell a = barCell b) : a = b := congrArg (fun g : GSem nD τ sig => g.1.1) h
theorem recv_inj {a b : Dev nD} {t u : Tr} (h : recvCell a t = recvCell b u) : a = b ∧ t = u := by
  have h0 := kcell_injective (a₁ := (a, .inr (.inr t))) (a₂ := (b, .inr (.inr u))) h
  exact ⟨congrArg Prod.fst h0, Sum.inr_injective (Sum.inr_injective (congrArg Prod.snd h0))⟩
theorem recv_ne_bar (a b : Dev nD) (t : Tr) : recvCell a t ≠ barCell b := fun h =>
  nomatch congrArg Prod.snd (kcell_injective (a₁ := (a, .inr (.inr t))) (a₂ := (b, .inl ())) h)

/-- A tally at one cell, read at the one index. -/
theorem tally_self (g : GSem nD τ sig) (n : ℕ) : (tallyAt g () n : CellTallies nD τ sig Unit) g () = n := by
  rw [tallyAt_apply, if_pos ⟨rfl, rfl⟩]
theorem tally_ne {g g' : GSem nD τ sig} (n : ℕ) (h : g ≠ g') : (tallyAt g' () n : CellTallies nD τ sig Unit) g () = 0 := by
  rw [tallyAt_apply, if_neg fun h' => h h'.1]

/-- What a device owes another's barrier cell: a unit to each neighbour's. -/
theorem owed_bar (d c : Dev nD) : O₀ d (barCell c) () = (if d = prv c then 1 else 0) + (if d = nxt c then 1 else 0) := by
  rw [O₀_apply, OT_apply, Finset.sum_eq_zero fun t _ => tally_ne N fun h => recv_ne_bar _ _ _ h.symm, Nat.zero_add]
  congr 1
  · by_cases h : d = prv c
    · subst h; rw [nxt_prv, tally_self, if_pos rfl]
    · rw [if_neg h]; exact tally_ne 1 fun h' => h (by rw [bar_inj h', prv_nxt])
  · by_cases h : d = nxt c
    · subst h; rw [prv_nxt, tally_self, if_pos rfl]
    · rw [if_neg h]; exact tally_ne 1 fun h' => h (by rw [bar_inj h', nxt_prv])

/-- What a device owes another's arrival cell: the transfer's credit, if it is the one that sends it. -/
theorem owed_recv (d c : Dev nD) (t : Tr) : O₀ d (recvCell c t) () = if d = giver c t then N else 0 := by
  rw [O₀_apply, OT_apply, tally_ne 1 (recv_ne_bar c (nxt d) t), tally_ne 1 (recv_ne_bar c (prv d) t), Nat.add_zero]
  rw [Finset.sum_eq_single t (fun u _ hu => tally_ne N fun h => hu (recv_inj h).2.symm) (fun h => absurd (Finset.mem_univ t) h)]
  by_cases h : d = giver c t
  · subst h; rw [peer_giver, tally_self, if_pos rfl]
  · rw [if_neg h]; exact tally_ne N fun h' => h (by rw [(recv_inj h').1, giver_peer])

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (t : Tr) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c t, Finset.sum_ite_eq' Finset.univ (giver c t) fun _ => N,
    if_pos (Finset.mem_univ _)]

/-- A device's credit at the start: two units of its barrier's, and every arrival's. -/
theorem creds (c : Dev nD) : (Pipeline.launchCred O₀ c : sProp 𝕄)
    ⊢ iprop(cred (tallyAt (barCell c) () 2) ∗ bigSep Finset.univ fun t : Tr => cred (tallyAt (recvCell c t) () N)) := by
  unfold Pipeline.launchCred
  refine (BI.bigSep_subset (Finset.subset_univ (Finset.univ.map ⟨csem, csem_injective⟩))).trans ?_
  rw [bigSep_map, bigSep_univ_sum, bigSep_univ_sum, BI.bigSep_univ_of_subsingleton (i := ()), ← launch_bar]
  refine BI.sep_mono (Entails.refl _) ((BI.sep_and.trans BI.and_elimR).trans ?_)
  exact Entails.of_eq (bigSep_congr fun t _ => congrArg cred (launch_recv c t))

/-! ## What a body starts from -/

theorem before_intro (c : Dev nD) : iprop(levAts L lv ∗ Pipeline.launchCred O₀ c ∗ G' xs c) ⊢ (before xs c : sProp 𝕄) := by
  unfold before G' linear payToks
  have hd : (bigSep Finset.univ (duty c) : sProp 𝕄) = iprop((bigSep Finset.univ fun t : Tr => dutyTok ER (sendCell c t) 0 false)
      ∗ (bigSep Finset.univ fun t : Tr => dutyTok ER (recvCell (peer c t) t) 0 false) ∗ bigSep Finset.univ fun t : Tr => atPos ER (sendCell c t) 0 ∅ 0) := by
    unfold duty; rw [bigSep_sep', bigSep_sep']
  have hc : (bigSep Finset.univ (coming c) : sProp 𝕄) = iprop((bigSep Finset.univ fun t : Tr => cred (tallyAt (recvCell c t) () N))
      ∗ bigSep Finset.univ fun t : Tr => atPos ER (recvCell c t) 0 ∅ 0) := by
    unfold coming; rw [bigSep_sep']
  have ha : (bigSep Finset.univ fun k : Cl => atPos ER (kcell (c, k)) 0 ∅ 0 : sProp 𝕄) = iprop(atPos ER (barCell c) 0 ∅ 0
      ∗ (bigSep Finset.univ fun t : Tr => atPos ER (sendCell c t) 0 ∅ 0) ∗ bigSep Finset.univ fun t : Tr => atPos ER (recvCell c t) 0 ∅ 0) := by
    rw [bigSep_univ_sum, bigSep_univ_sum, BI.bigSep_univ_of_subsingleton (i := ())]; rfl
  rw [hd, hc, ha]
  iintro ⟨Hlev, Hcr, %K, HR, ⟨Hb, Hs, Hr⟩, ⟨Htp, Htn⟩, Hts, Htr⟩
  ihave Hc := (creds (F := F) c) $$ Hcr
  icases Hc with ⟨Hc2, HcN⟩
  isplitl [HR]; · iexists K; iexact HR
  isplitl [Hlev]; · iexact Hlev
  isplitl [Hb]; · iexact Hb
  isplitl [Hc2]; · iexact Hc2
  isplitl [Htp]; · iexact Htp
  isplitl [Htn]; · iexact Htn
  isplitl [Hts Htr Hs]
  · isplitl [Hts]; · iexact Hts
    isplitl [Htr]; · iexact Htr
    iexact Hs
  isplitl [HcN]; · iexact HcN
  iexact Hr

end Cert.Ring

end
-- ==== Proof.Run.lean ====
/-
The run: from any memory whose semaphores read zero, the program on all sixteen devices ends with every device's result
the gathered blocks, its argument unchanged, and every semaphore at zero.
-/
module

public import proofs.«01_k».proof.Proof.Start
public import Idealize.ShloMosaic.Lib.Pipeline.Value

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The blocks -/

/-- A window's block is the whole array: reading it reads the array. -/
theorem read_x (f : (main_arg0 : Ref sig .tc).ty.Contents (Elt F)) : (win0_0.blk t0_0).view.read (Elt F) f = f := by
  funext y
  show f ((win0_0.rect t0_0).emb y) = f y
  refine congrArg f (funext fun a => Fin.ext ?_)
  rw [Pipeline.Window.rect_emb_val_off]
  fin_cases a <;> exact Nat.zero_add _
theorem read_o (f : (main_v1 : Ref sig .tc).ty.Contents (Elt F)) : (win0_1.blk t0_0).view.read (Elt F) f = f := by
  funext y
  show f ((win0_1.rect t0_0).emb y) = f y
  refine congrArg f (funext fun a => Fin.ext ?_)
  rw [Pipeline.Window.rect_emb_val_off]
  fin_cases a <;> exact Nat.zero_add _

/-- The block each device stages: its argument. -/
def blocks (c : Dev nD) : XC F := (win0_0.blk t0_0).view.read (Elt F) (m ((c : Thread nD τ).loc main_arg0))
theorem blocks_eq (c : Dev nD) : blocks m c = m ((c : Thread nD τ).loc main_arg0) := read_x _

/-! ## The body among its buffers -/

/-- The one point of the call: the arrays as found, the block staged and the gathered result after it. -/
def dats (_ : Fin 1) (c : Dev nD) : Dat τ (Elt F) Unit ℕ UU ℕ cfg0 c where
  A w := m ((cfg0.win w).arr.view.loc (c : Thread nD τ))
  after w _ := match w with
    | ⟨0, _⟩ => blocks m c
    | ⟨1, _⟩ => gath (blocks m)
  Φ t := match t with
    | ⟨0, _⟩ => before (blocks m) c
    | ⟨_ + 1, _⟩ => after c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at given contents. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The staged block, when the body starts, is the argument's. -/
theorem before_x (c : Dev nD) (d) : (dats m 0 c).before (0 : Fin 2) t0_0 d = blocks m c := by
  unfold Dat.before; rw [if_pos (by decide)]; rfl

def bodyPre (c : Dev nD) : sProp 𝕄 :=
  iprop(before (blocks m) c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(after c ∗ (dats m 0 c).owesAt () t0_0.succ ∗ stg c cc0_stg0_0 (blocks m c) ∗ stg c cc0_stg1_0 (gath (blocks m)))

/-- The body between what the call hands it and what the call expects of it. -/
theorem sound_body (c : Dev nD) :
    bodyPre m c ⊢ wp frame (wpE (defs₀ (F := F)) 𝒱₀ (c : Thread nD τ) none) Set.univ body (fun _ => bodyPost m c) := by
  unfold bodyPre stg Dat.owesAt Pipeline.owesWithin
  rw [show (dats m 0 c).owed t0_0.castSucc = O₀ c from rfl]
  iintro ⟨Hb, ⟨%W, %hW, HO⟩, ⟨%d, %f, %hf, Hx⟩, ⟨%d', %f', %hf', Ho⟩⟩
  rw [before_x] at hf
  subst hf
  iapply (wp_body (blocks m) c f')
  isplitl [Hb]; · iexact Hb
  isplitl [HO]; · iexists W; iexact HO
  isplitl [Hx]; · unfold xWhole; iexact Hx
  isplitl [Ho]; · unfold oWhole; iexact Ho
  unfold bodyPost stg Dat.owesAt Pipeline.owesWithin xWhole oWhole
  rw [show (dats m 0 c).owed t0_0.succ = 0 from rfl]
  iintro ⟨Ha, ⟨%W', HO⟩, Hx, Ho⟩
  isplitl [Ha]; · iexact Ha
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 16000 in
/-- What the call asks of its body, on each device. -/
theorem body_obligation (c : Dev nD) : BodyObligation (dats (F := F) m 0 c) (defs₀ (F := F)) 𝒱₀ () Set.univ := fun t => by
  obtain rfl := fin_N0 t
  rw [bigSep_W0, bigSep_W0]
  simp only [owns_whole]
  show bodyPre m c ⊢ wp frame (wpE (defs₀ (F := F)) 𝒱₀ (c : Thread nD τ) none) Set.univ
    (cc0_body xM (Memref.isWhole_whole _) oM (Memref.isWhole_whole _) cc0_scratch0 cc0_scratch1 cc0_scratch2 cc0_scratch3) (fun _ => bodyPost m c)
  rw [body_eq]
  exact sound_body m c

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (blocks m) c)
      ⊢ |={Set.univ}=> iprop(before (blocks m) c ∗ emp) := by
  iintro ⟨-, Hlev, Hcr, -, HG⟩
  imodintro
  isplitl
  · iapply (before_intro (blocks m) c)
    isplitl [Hlev]; · iexact Hlev
    isplitl [Hcr]; · iexact Hcr
    iexact HG
  · iempintro

theorem phi0_intro (c : Dev nD) :
    iprop(before (blocks m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before (blocks m) c from rfl]
  iintro ⟨Hs, -, -⟩
  iexact Hs

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after c from rfl, scopedRest0_eq, after_eq]
  iintro ⟨Hu, Ho⟩
  isplitl [Hu]; · iexact Hu
  isplitl [Ho]; · iexact Ho
  iempintro

/-- A semaphore that is no cell's. -/
theorem clOf_none {s : SemLoc sig} (h : ∀ k : Cl, csem k ≠ s) : clOf s = none := by
  unfold clOf Function.partialInv
  exact dif_neg fun ⟨k, hk⟩ => h k hk

theorem stage_none : ∀ (w : Fin 2) (s : Fin (cfg0.win w).nbuf), clOf (.dma ((cfg0.win w).sem s)) = none := fun w s =>
  clOf_none (by revert w s; decide +kernel)

theorem waits (c : Dev nD) : (levAts L lv : sProp 𝕄) ⊢ Pipeline.cellsWaits cfgs (dats m) () 0 c :=
  Pipeline.cellsWaits_intro cfgs (dats m) () 0 c fun w s t =>
    mayWait_stage c _ (stage_none w s) _ (by
      rcases t with ⟨_ | _, ht⟩
      · exact Or.inl rfl
      · exact Or.inr rfl)

/-! ## The run -/

/-- The barrier's semaphore is the one that outlives the kernel. -/
theorem outlives : ∀ sm : SemLoc sig, sm.isScoped .tc = false → sm = .reg barS := by decide +kernel

/-- An array's contents after the call. -/
def finalA (c : Dev nD) (w : Fin cfg0.W) : Buf (Elt F) ((cfg0.win w).arr.view.loc (c : Thread nD τ)) := (dats m 0 c).arrAt w cfg0.N

set_option maxRecDepth 16000 in
/-- Every array ends as the call leaves it, and every semaphore at zero. -/
theorem run_arrays : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (blocks m)) (G' := G' (blocks m)) (u₀ := u₀)
    (hu₀ := by
      unfold u₀
      iintro Hu
      ihave H := (ownU_pair _ _) $$ Hu
      icases H with ⟨HP, HX⟩
      imod (fund_ring (blocks m)) $$ HX with HG
      imodintro
      isplitl [HP] <;> iassumption)
    (hglob := glob (blocks m))
    (hA := fun _ _ => rfl) (hpf := fun _ k => k.elim0)
    (X := before (blocks m)) (Y := fun c => unscopedSems0 c) (Z := fun _ => iprop(emp))
    (hX := start_intro m ρ) (hin := phi0_intro m) (hout := phi1_exit m)
    (QY := fun c s => s.sem (barCell c) = 0)
    (hY := fun c s' => by
      rw [unscopedSems0_eq]
      iintro ⟨Hu, -, HSI⟩
      icombine HSI Hu gives %hz
      imodintro
      isplitr; · ipureintro; exact hz
      iexact HSI)
    (hQ := fun _ h hs => ⟨fun c w => (h c).1 w, sem_eq_zero hs fun c sm hsm => by
      rw [outlives sm hsm]; exact (h c).2.2⟩)

theorem finalA_x (c : Dev nD) : finalA m c (0 : Fin 2) = m ((c : Thread nD τ).loc main_arg0) :=
  (dats (F := F) m 0 c).arrAt_in (0 : Fin 2) rfl _

theorem finalA_o (c : Dev nD) : finalA m c (1 : Fin 2) = gath (blocks m) := by
  refine (read_o _).symm.trans ?_
  unfold finalA
  rw [show cfg0.N = (t0_0 : Fin cfg0.N).val + 1 from rfl, (dats m 0 c).arrAt_succ (1 : Fin 2) t0_0]
  rw [show (cfg0.win (1 : Fin 2)).flush t0_0 = true from by decide, if_pos rfl]
  exact View.read_write_univ _ _

/-- On all sixteen devices, at any float values, from any memory whose semaphores read zero: every run ends with each
    device's result the gathered blocks of every device's argument, each argument unchanged, and every semaphore at zero. -/
theorem run_main : θ_run defs (onTc (τ := τ) (main (F := F))) ⟨m, fun _ => 0, ρ⟩ (fun r =>
    (∀ c : Dev nD, r.2.mem ((c.tc : Thread nD τ).loc main_v1) = gath (fun d => m ((d.tc : Thread nD τ).loc main_arg0))
      ∧ r.2.mem ((c.tc : Thread nD τ).loc main_arg0) = m ((c.tc : Thread nD τ).loc main_arg0))
    ∧ r.2.sem = fun _ => 0) :=
  (θ_run defs _ _).mono (fun _ h => ⟨fun c => ⟨(h.1 c (1 : Fin 2)).trans ((finalA_o m c).trans (congrArg gath (funext fun d => blocks_eq m d))),
    (h.1 c (0 : Fin 2)).trans (finalA_x m c)⟩, h.2⟩) (run_arrays m ρ)

end Cert.Ring

end
-- ==== Proof.Bits.lean ====
/-
The program and its idealization have one text: what is proved of the second's runs holds of the first's.
-/
module

public import proofs.«01_k».proof.Proof.Run
public import proofs.«01_k».proof.Proof.Gen.Kernel

@[expose] public section

noncomputable section

namespace Cert.Ring

open Idealize.ShloMosaic Idealize.SL.Sem

variable {F : FTy → Type} [FloatOps F]

set_option maxRecDepth 65536 in
/-- The program's printed body is the same text. -/
theorem body_same : (Cert.Kernel.cc0_body (F := F) (Memref.whole Cert.Kernel.cc0_stg0_0) (Memref.isWhole_whole _)
      (Memref.whole Cert.Kernel.cc0_stg1_0) (Memref.isWhole_whole _)
      Cert.Kernel.cc0_scratch0 Cert.Kernel.cc0_scratch1 Cert.Kernel.cc0_scratch2 Cert.Kernel.cc0_scratch3
      : Prog (TpuEff Cert.KernelIdeal.nD Cert.KernelIdeal.τ Cert.KernelIdeal.sig (Elt F) Cert.KernelIdeal.Λ₀ .tc) PUnit) = body := by
  chain_rfl

/-- The two tables of bodies are one. -/
theorem bodies_same : (Cert.Kernel.defs₀ (F := F) : Defs Cert.KernelIdeal.nD Cert.KernelIdeal.τ Cert.KernelIdeal.sig (Elt F) Cert.KernelIdeal.Λ₀)
    = Cert.KernelIdeal.defs₀ := by
  refine congrArg Defs.onTc (funext fun l => funext fun a => ?_)
  match l, a with
  | 0, (t, s) => exact body_same.trans body_eq.symm
  | ⟨_ + 1, h⟩, _ => exact absurd h (Nat.not_lt.2 (Nat.le_add_left _ _))

set_option maxRecDepth 65536 in
/-- Every run of the program before its idealization, at any float values, leaves each argument unchanged and every
    semaphore at zero. -/
theorem run_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD, r.2.mem ((c.tc : Thread Cert.Kernel.nD Cert.Kernel.τ).loc Cert.Kernel.main_arg0)
        = m ((c.tc : Thread Cert.Kernel.nD Cert.Kernel.τ).loc Cert.Kernel.main_arg0))
      ∧ r.2.sem = fun _ => 0) := by
  unfold Cert.Kernel.defs
  have h := (θ_run Cert.KernelIdeal.defs _ _).mono (fun _ h => And.intro (fun c => (h.1 c).2) h.2) (run_main (F := F) m ρ)
  unfold Cert.KernelIdeal.defs at h
  rw [← bodies_same] at h
  exact h

end Cert.Ring
-- ==== Proof.Ref.lean ====
/-
The reference returns its argument: its run changes no buffer. And the gathered result of an array's sixteen blocks is
the array.
-/
module

public import proofs.«01_k».proof.Proof.Contents
public import proofs.«01_k».proof.Proof.Gen.ReferenceIdeal
public import Idealize.ShloMosaic.Lib.StableHlo.Run
public import Idealize.ShloMosaic.Lib.Layout

@[expose] public section

noncomputable section

namespace Cert.Ring

open Idealize.ShloMosaic Idealize.SL.Sem

variable {F : FTy → Type} [FloatOps F]

/-- Every run of the reference ends with its argument as it was and every semaphore at zero: the program has no step,
    no scratch and no semaphore. -/
theorem run_reference (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0))
      ∧ r.2.sem = fun _ => 0) :=
  (θ_run Cert.ReferenceIdeal.defs _ _).mono
    (fun r h => ⟨fun c => h c Cert.ReferenceIdeal.main_arg0, sem_eq_zero_of_no_sems (by decide) r.2⟩)
    (StableHlo.run_seq (by decide) (by decide) Cert.ReferenceIdeal.defs Cert.ReferenceIdeal.main (fun _ => []) (fun _ => rfl) (fun _ => trivial) m ρ)

/-- The sixteen blocks of an array, gathered, are the array: row `r` lies in block `r / 256`, at its row `r % 256`. -/
theorem gath_block (X : OC F) : gath (fun c : Dev Cert.KernelIdeal.nD => (Layout.block ⟨2, ![256, 256]⟩ ⟨2, ![4096, 256]⟩ 0 16 c X : XC F)) = X := by
  funext i
  refine congrArg X (funext fun a => Fin.ext ?_)
  revert a
  rw [Fin.forall_fin_two]
  exact ⟨Nat.div_add_mod' _ _, rfl⟩

end Cert.Ring

end
-- ==== Proof.lean ====
/-
The certificate. The kernel gathers the sixteen devices' blocks of an array around a ring, in both directions at once,
each block in four quarters; every device ends with the whole array. The modules, in order: Text (the body, printed,
as rounds of steps), Places (where the quarters go), Contents (what they hold), Sched (who pays which semaphore, and what
each landing hands over), Steps (one copy and one wait), Pieces (how the buffers are cut and joined), Body (one device),
Start (what the devices hold at the start), Run (all devices), Bits (the program before its idealization), Ref (the
reference, and the gathered array).
-/
module

public import proofs.«01_k».proof.Defs
public import proofs.«01_k».proof.Proof.Run
public import proofs.«01_k».proof.Proof.Bits
public import proofs.«01_k».proof.Proof.Ref

@[expose] public section

noncomputable section

namespace Cert.Proof

open Idealize.ShloMosaic Idealize.SL.Sem Cert.Ring

/-- Every device ends with the whole array, the reference's result. -/
theorem gathers : Cert.algebraic_KernelIdeal_ReferenceIdeal := by
  intro m g m' g' _ hm
  refine ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c).1.trans ?_, (h.1 c).2⟩) (run_main m g),
    (θ_run Cert.ReferenceIdeal.defs _ _).mono (fun _ h => ⟨h.1 0, h.1 0⟩) (run_reference m' g')⟩
  exact (congrArg gath (funext hm)).trans (gath_block _)

/-- The claims: the three programs run to the end with their arguments unchanged and their semaphores at zero, and every
    device's result is the reference's. -/
theorem claim : Cert.Claim := ⟨Cert.Kernel.Gen.facts, Cert.KernelIdeal.Gen.facts, Cert.ReferenceIdeal.Gen.facts,
  fun m g _ => run_kernel m g,
  fun m g _ => (θ_run Cert.KernelIdeal.defs _ _).mono (fun _ h => ⟨fun c => (h.1 c).2, h.2⟩) (run_main m g),
  fun m g _ => run_reference m g,
  trivial,
  gathers⟩

end Cert.Proof

end
